-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_finite_logits.lean ====
abbrev S4x32x32x768 : Shape := ⟨4, ![4, 32, 32, 768]⟩
abbrev S4x32x32x2 : Shape := ⟨4, ![4, 32, 32, 2]⟩
abbrev S768x192 : Shape := ⟨2, ![768, 192]⟩
abbrev S192 : Shape := ⟨1, ![192]⟩
abbrev S768x96 : Shape := ⟨2, ![768, 96]⟩
abbrev S96 : Shape := ⟨1, ![96]⟩
abbrev S768x768 : Shape := ⟨2, ![768, 768]⟩
abbrev S768 : Shape := ⟨1, ![768]⟩
abbrev S4x1024x768 : Shape := ⟨3, ![4, 1024, 768]⟩
abbrev S4x1024x96 : Shape := ⟨3, ![4, 1024, 96]⟩
abbrev S1x1x96 : Shape := ⟨3, ![1, 1, 96]⟩
abbrev S_ : Shape := ⟨0, ![]⟩

class Facts : Prop where
  shapeCasts_S4x32x32x768_S4x1024x768 : S4x32x32x768.ShapeCasts S4x1024x768
  bcast_S96_S1x1x96_2 : S96.BroadcastsInDim S1x1x96 (![2] : Fin 1 → Fin S1x1x96.rank)
  bcast_S1x1x96_S4x1024x96_0_1_2 : S1x1x96.BroadcastsInDim S4x1024x96 (![0, 1, 2] : Fin 3 → Fin S4x1024x96.rank)
  bcast_S_S4x1024x96 : S_.BroadcastsInDim S4x1024x96 (![] : Fin 0 → Fin S4x1024x96.rank)
  dot_S4x1024x768_S768x96_S4x1024x96_2_0_01_1_n_n_wf : DotDims.WF S4x1024x768 S768x96 S4x1024x96 [2] [0] [0, 1] [1] [] []

variable [Facts]

def dot_S4x1024x768_S768x96_S4x1024x96_2_0_01_1_n_n : DotDims S4x1024x768 S768x96 S4x1024x96 where
  lhsContracting := [2]
  rhsContracting := [0]
  lhsNonContracting := [0, 1]
  rhsNonContracting := [1]
  lhsBatch := []
  rhsBatch := []
  wf := dot_S4x1024x768_S768x96_S4x1024x96_2_0_01_1_n_n_wf
def fn {F : FTy → Type} [FloatOps F] (main_arg0 : FVec F S4x32x32x768 .f32) (main_arg1 : FVec F S4x32x32x2 .f32) (main_arg2 : FVec F S768x192 .f32) (main_arg3 : FVec F S192 .f32) (main_arg4 : FVec F S768x96 .f32) (main_arg5 : FVec F S96 .f32) (main_arg6 : FVec F S768x768 .f32) (main_arg7 : FVec F S768 .f32) (main_arg8 : FVec F S768x768 .f32) (main_arg9 : FVec F S768 .f32) : IVec S4x1024x96 1 :=
  let main_v0 : FVec F S4x1024x768 .f32 := shapeCast S4x1024x768 main_arg0 shapeCasts_S4x32x32x768_S4x1024x768
  let main_v1 : FVec F S4x1024x96 .f32 := (fun l r => Host.dotGeneral dot_S4x1024x768_S768x96_S4x1024x96_2_0_01_1_n_n none l r) main_v0 main_arg4
  let main_v2 : FVec F S1x1x96 .f32 := broadcastInDim S1x1x96 ![2] bcast_S96_S1x1x96_2 main_arg5
  let main_v3 : FVec F S4x1024x96 .f32 := broadcastInDim S4x1024x96 ![0, 1, 2] bcast_S1x1x96_S4x1024x96_0_1_2 main_v2
  let main_v4 : FVec F S4x1024x96 .f32 := addf main_v1 main_v3
  let main_v5 : FVec F S4x1024x96 .f32 := Host.absf main_v4
  let main_cst : FVec F S_ .f32 := constant S_ .f32 0x7F800000#32
  let main_v6 : FVec F S4x1024x96 .f32 := broadcastInDim S4x1024x96 ![] bcast_S_S4x1024x96 main_cst
  let main_v7 : IVec S4x1024x96 1 := cmpf .olt main_v5 main_v6
  main_v7
-- ==== Kernel.lean ====
abbrev S4x32x32x768 : Shape := ⟨4, ![4, 32, 32, 768]⟩
abbrev S4x32x32x2 : Shape := ⟨4, ![4, 32, 32, 2]⟩
abbrev S768x192 : Shape := ⟨2, ![768, 192]⟩
abbrev S192 : Shape := ⟨1, ![192]⟩
abbrev S768x96 : Shape := ⟨2, ![768, 96]⟩
abbrev S96 : Shape := ⟨1, ![96]⟩
abbrev S768x768 : Shape := ⟨2, ![768, 768]⟩
abbrev S768 : Shape := ⟨1, ![768]⟩
abbrev S2 : Shape := ⟨1, ![2]⟩
abbrev S4x1024x768 : Shape := ⟨3, ![4, 1024, 768]⟩
abbrev S4x768x1024 : Shape := ⟨3, ![4, 768, 1024]⟩
abbrev S768x12x64 : Shape := ⟨3, ![768, 12, 64]⟩
abbrev S12x768x64 : Shape := ⟨3, ![12, 768, 64]⟩
abbrev S768x12x8x2 : Shape := ⟨4, ![768, 12, 8, 2]⟩
abbrev S768x12x8x1 : Shape := ⟨4, ![768, 12, 8, 1]⟩
abbrev S768x12x8 : Shape := ⟨3, ![768, 12, 8]⟩
abbrev S12x768x8 : Shape := ⟨3, ![12, 768, 8]⟩
abbrev S_ : Shape := ⟨0, ![]⟩
abbrev S12x768x88 : Shape := ⟨3, ![12, 768, 88]⟩
abbrev S12x88x768 : Shape := ⟨3, ![12, 88, 768]⟩
abbrev S12x8x2 : Shape := ⟨3, ![12, 8, 2]⟩
abbrev S12x64 : Shape := ⟨2, ![12, 64]⟩
abbrev S12x8x1 : Shape := ⟨3, ![12, 8, 1]⟩
abbrev S12x8 : Shape := ⟨2, ![12, 8]⟩
abbrev S12x88 : Shape := ⟨2, ![12, 88]⟩
abbrev S12x88x1 : Shape := ⟨3, ![12, 88, 1]⟩
abbrev S4x1024x2 : Shape := ⟨3, ![4, 1024, 2]⟩
abbrev S1x1x2 : Shape := ⟨3, ![1, 1, 2]⟩
abbrev S4x2x1024 : Shape := ⟨3, ![4, 2, 1024]⟩
abbrev S768x1 : Shape := ⟨2, ![768, 1]⟩
abbrev S1x768x1024 : Shape := ⟨3, ![1, 768, 1024]⟩
abbrev S1x2x1024 : Shape := ⟨3, ![1, 2, 1024]⟩
abbrev S1x88x768 : Shape := ⟨3, ![1, 88, 768]⟩
abbrev S1x88x1 : Shape := ⟨3, ![1, 88, 1]⟩
abbrev S2x768x1024 : Shape := ⟨3, ![2, 768, 1024]⟩
abbrev S768x1024 : Shape := ⟨2, ![768, 1024]⟩
abbrev S88x768 : Shape := ⟨2, ![88, 768]⟩
abbrev S88x1024 : Shape := ⟨2, ![88, 1024]⟩
abbrev S88x1 : Shape := ⟨2, ![88, 1]⟩
abbrev S64x1024 : Shape := ⟨2, ![64, 1024]⟩
abbrev S8x1024 : Shape := ⟨2, ![8, 1024]⟩
abbrev S1x1x1024 : Shape := ⟨3, ![1, 1, 1024]⟩
abbrev S1x1024 : Shape := ⟨2, ![1, 1024]⟩
abbrev S1024 : Shape := ⟨1, ![1024]⟩
abbrev S32x1 : Shape := ⟨2, ![32, 1]⟩
abbrev S32x1024 : Shape := ⟨2, ![32, 1024]⟩
abbrev S1024x1024 : Shape := ⟨2, ![1024, 1024]⟩
abbrev S1x64x1024 : Shape := ⟨3, ![1, 64, 1024]⟩

abbrev nBuf : Space → Nat
  | .hbm => 61
  | .vmem => 13
  | .smem => 0
  | _ => 0

abbrev bufTy : (tb : Table) → Fin (tcTables nBuf tb) → BufTy
  | .hbm, ⟨0, _⟩ => ⟨S4x32x32x768, .f32⟩
  | .hbm, ⟨1, _⟩ => ⟨S4x32x32x2, .f32⟩
  | .hbm, ⟨2, _⟩ => ⟨S768x192, .f32⟩
  | .hbm, ⟨3, _⟩ => ⟨S192, .f32⟩
  | .hbm, ⟨4, _⟩ => ⟨S768x96, .f32⟩
  | .hbm, ⟨5, _⟩ => ⟨S96, .f32⟩
  | .hbm, ⟨6, _⟩ => ⟨S768x768, .f32⟩
  | .hbm, ⟨7, _⟩ => ⟨S768, .f32⟩
  | .hbm, ⟨8, _⟩ => ⟨S768x768, .f32⟩
  | .hbm, ⟨9, _⟩ => ⟨S768, .f32⟩
  | .hbm, ⟨10, _⟩ => ⟨S2, .f32⟩
  | .hbm, ⟨11, _⟩ => ⟨S4x1024x768, .f32⟩
  | .hbm, ⟨12, _⟩ => ⟨S4x768x1024, .f32⟩
  | .hbm, ⟨13, _⟩ => ⟨S768x12x64, .f32⟩
  | .hbm, ⟨14, _⟩ => ⟨S12x768x64, .f32⟩
  | .hbm, ⟨15, _⟩ => ⟨S768x12x8x2, .f32⟩
  | .hbm, ⟨16, _⟩ => ⟨S768x12x8x1, .f32⟩
  | .hbm, ⟨17, _⟩ => ⟨S768x12x8, .f32⟩
  | .hbm, ⟨18, _⟩ => ⟨S12x768x8, .f32⟩
  | .hbm, ⟨19, _⟩ => ⟨S_, .f32⟩
  | .hbm, ⟨20, _⟩ => ⟨S12x768x8, .f32⟩
  | .hbm, ⟨21, _⟩ => ⟨S12x768x8, .f32⟩
  | .hbm, ⟨22, _⟩ => ⟨S768x12x8x1, .f32⟩
  | .hbm, ⟨23, _⟩ => ⟨S768x12x8, .f32⟩
  | .hbm, ⟨24, _⟩ => ⟨S12x768x8, .f32⟩
  | .hbm, ⟨25, _⟩ => ⟨S_, .f32⟩
  | .hbm, ⟨26, _⟩ => ⟨S12x768x8, .f32⟩
  | .hbm, ⟨27, _⟩ => ⟨S12x768x8, .f32⟩
  | .hbm, ⟨28, _⟩ => ⟨S768x12x8, .f32⟩
  | .hbm, ⟨29, _⟩ => ⟨S12x768x8, .f32⟩
  | .hbm, ⟨30, _⟩ => ⟨S12x768x88, .f32⟩
  | .hbm, ⟨31, _⟩ => ⟨S12x88x768, .f32⟩
  | .hbm, ⟨32, _⟩ => ⟨S12x8x2, .f32⟩
  | .hbm, ⟨33, _⟩ => ⟨S12x64, .f32⟩
  | .hbm, ⟨34, _⟩ => ⟨S12x8x1, .f32⟩
  | .hbm, ⟨35, _⟩ => ⟨S12x8, .f32⟩
  | .hbm, ⟨36, _⟩ => ⟨S_, .f32⟩
  | .hbm, ⟨37, _⟩ => ⟨S12x8, .f32⟩
  | .hbm, ⟨38, _⟩ => ⟨S12x8, .f32⟩
  | .hbm, ⟨39, _⟩ => ⟨S12x8x1, .f32⟩
  | .hbm, ⟨40, _⟩ => ⟨S12x8, .f32⟩
  | .hbm, ⟨41, _⟩ => ⟨S_, .f32⟩
  | .hbm, ⟨42, _⟩ => ⟨S12x8, .f32⟩
  | .hbm, ⟨43, _⟩ => ⟨S12x8, .f32⟩
  | .hbm, ⟨44, _⟩ => ⟨S12x8, .f32⟩
  | .hbm, ⟨45, _⟩ => ⟨S12x88, .f32⟩
  | .hbm, ⟨46, _⟩ => ⟨S12x88x1, .f32⟩
  | .hbm, ⟨47, _⟩ => ⟨S4x1024x2, .f32⟩
  | .hbm, ⟨48, _⟩ => ⟨S1x1x2, .f32⟩
  | .hbm, ⟨49, _⟩ => ⟨S4x1024x2, .f32⟩
  | .hbm, ⟨50, _⟩ => ⟨S4x1024x2, .f32⟩
  | .hbm, ⟨51, _⟩ => ⟨S_, .f32⟩
  | .hbm, ⟨52, _⟩ => ⟨S4x1024x2, .f32⟩
  | .hbm, ⟨53, _⟩ => ⟨S4x1024x2, .f32⟩
  | .hbm, ⟨54, _⟩ => ⟨S4x2x1024, .f32⟩
  | .hbm, ⟨55, _⟩ => ⟨S768x768, .f32⟩
  | .hbm, ⟨56, _⟩ => ⟨S768x768, .bf16⟩
  | .hbm, ⟨57, _⟩ => ⟨S768x1, .f32⟩
  | .hbm, ⟨58, _⟩ => ⟨S4x768x1024, .f32⟩
  | .hbm, ⟨59, _⟩ => ⟨S4x1024x768, .f32⟩
  | .hbm, ⟨60, _⟩ => ⟨S4x32x32x768, .f32⟩
  | .local _ .vmem, ⟨0, _⟩ => ⟨S1x768x1024, .f32⟩
  | .local _ .vmem, ⟨1, _⟩ => ⟨S1x768x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x88x768, .f32⟩
  | .local _ .vmem, ⟨5, _⟩ => ⟨S1x88x768, .f32⟩
  | .local _ .vmem, ⟨6, _⟩ => ⟨S1x88x1, .f32⟩
  | .local _ .vmem, ⟨7, _⟩ => ⟨S1x88x1, .f32⟩
  | .local _ .vmem, ⟨8, _⟩ => ⟨S768x768, .bf16⟩
  | .local _ .vmem, ⟨9, _⟩ => ⟨S768x1, .f32⟩
  | .local _ .vmem, ⟨10, _⟩ => ⟨S1x768x1024, .f32⟩
  | .local _ .vmem, ⟨11, _⟩ => ⟨S1x768x1024, .f32⟩
  | .local _ .vmem, ⟨12, _⟩ => ⟨S2x768x1024, .bf16⟩
  | _, _ => ⟨S4x32x32x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![5, 12], ![false, false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let c2_i32 : BitVec 32 := 2#32
  let v1220 : BitVec 32 := Scalar.remsi arg0 c2_i32
  let v1222 : Index := Scalar.indexCast v1220
  let arg1 : BitVec 32 := BitVec.ofNat 32 (i 1).val
  let c64_i32 : BitVec 32 := 64#32
  let v1221 : BitVec 32 := Scalar.muli arg1 c64_i32
  let v1223 : Index := Scalar.indexCast v1221
  let c0_43 : Index := 0#32
  ![v1222.toNat, v1223.toNat, 0]
def k0_cond2 (i : grid0.Coords) : BitVec 1 :=
  let arg0 : BitVec 32 := BitVec.ofNat 32 (i 0).val
  let c0_i32_0 : BitVec 32 := 0#32
  let v3 : BitVec 1 := Scalar.cmpi .sgt arg0 c0_i32_0
  let arg1 : BitVec 32 := BitVec.ofNat 32 (i 1).val
  let c0_i32_1 : BitVec 32 := 0#32
  let v4 : BitVec 1 := Scalar.cmpi .eq arg1 c0_i32_1
  let v5 : BitVec 1 := Scalar.andi v3 v4
  let v6 : BitVec 32 := Scalar.extui v5
  let c0_i32_2 : BitVec 32 := 0#32
  let v7 : BitVec 1 := Scalar.cmpi .ne v6 c0_i32_2
  v7

def k0_off2 (i : grid0.Coords) : Fin 3 → Nat :=
  let arg0 : BitVec 32 := BitVec.ofNat 32 (i 0).val
  let c1_i32 : BitVec 32 := 1#32
  let v8 : BitVec 32 := Scalar.addi arg0 c1_i32
  let c2_i32 : BitVec 32 := 2#32
  let v9 : BitVec 32 := Scalar.remsi v8 c2_i32
  let v10 : Index := Scalar.indexCast v9
  let c0 : Index := 0#32
  let c0_3 : Index := 0#32
  ![v10.toNat, 0, 0]
def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x88x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x88x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S4x32x32x768 : Shape := ⟨4, ![4, 32, 32, 768]⟩
abbrev S4x32x32x2 : Shape := ⟨4, ![4, 32, 32, 2]⟩
abbrev S768x192 : Shape := ⟨2, ![768, 192]⟩
abbrev S192 : Shape := ⟨1, ![192]⟩
abbrev S768x96 : Shape := ⟨2, ![768, 96]⟩
abbrev S96 : Shape := ⟨1, ![96]⟩
abbrev S768x768 : Shape := ⟨2, ![768, 768]⟩
abbrev S768 : Shape := ⟨1, ![768]⟩
abbrev S1x1x1x768 : Shape := ⟨4, ![1, 1, 1, 768]⟩
abbrev S4x32x32x12x64 : Shape := ⟨5, ![4, 32, 32, 12, 64]⟩
abbrev S4x12x64x32x32 : Shape := ⟨5, ![4, 12, 64, 32, 32]⟩
abbrev S48x64x32x32 : Shape := ⟨4, ![48, 64, 32, 32]⟩
abbrev S4x1024x768 : Shape := ⟨3, ![4, 1024, 768]⟩
abbrev S4x1024x192 : Shape := ⟨3, ![4, 1024, 192]⟩
abbrev S1x1x192 : Shape := ⟨3, ![1, 1, 192]⟩
abbrev S4x1024x12x8x2 : Shape := ⟨5, ![4, 1024, 12, 8, 2]⟩
abbrev S4x1024x96 : Shape := ⟨3, ![4, 1024, 96]⟩
abbrev S1x1x96 : Shape := ⟨3, ![1, 1, 96]⟩
abbrev S4x1024x12x8 : Shape := ⟨4, ![4, 1024, 12, 8]⟩
abbrev S_ : Shape := ⟨0, ![]⟩
abbrev S4x1024x12 : Shape := ⟨3, ![4, 1024, 12]⟩
abbrev S4x1024x12x1 : Shape := ⟨4, ![4, 1024, 12, 1]⟩
abbrev S4x1024x2 : Shape := ⟨3, ![4, 1024, 2]⟩
abbrev S4x1024x1x1x2 : Shape := ⟨5, ![4, 1024, 1, 1, 2]⟩
abbrev S4x12x1024x8x2 : Shape := ⟨5, ![4, 12, 1024, 8, 2]⟩
abbrev S48x1024x8x2 : Shape := ⟨4, ![48, 1024, 8, 2]⟩
abbrev S48x1024x8x1 : Shape := ⟨4, ![48, 1024, 8, 1]⟩
abbrev S48x1024x8 : Shape := ⟨3, ![48, 1024, 8]⟩
abbrev S48x64x1024x8 : Shape := ⟨4, ![48, 64, 1024, 8]⟩
abbrev S48x1x1024x8 : Shape := ⟨4, ![48, 1, 1024, 8]⟩
abbrev S4x12x1024x8 : Shape := ⟨4, ![4, 12, 1024, 8]⟩
abbrev S48x1024x8x64 : Shape := ⟨4, ![48, 1024, 8, 64]⟩
abbrev S48x1024x64 : Shape := ⟨3, ![48, 1024, 64]⟩
abbrev S4x12x1024x64 : Shape := ⟨4, ![4, 12, 1024, 64]⟩
abbrev S4x1024x12x64 : Shape := ⟨4, ![4, 1024, 12, 64]⟩
abbrev S1x1x768 : Shape := ⟨3, ![1, 1, 768]⟩

abbrev nBuf : Space → Nat
  | .hbm => 353
  | .vmem => 0
  | .smem => 0
  | _ => 0

abbrev hbmTy0_0 (i : Nat) : BufTy := match i % 128 with
  | 0 => ⟨S4x32x32x768, .f32⟩
  | 1 => ⟨S4x32x32x2, .f32⟩
  | 2 => ⟨S768x192, .f32⟩
  | 3 => ⟨S192, .f32⟩
  | 4 => ⟨S768x96, .f32⟩
  | 5 => ⟨S96, .f32⟩
  | 6 => ⟨S768x768, .f32⟩
  | 7 => ⟨S768, .f32⟩
  | 8 => ⟨S768x768, .f32⟩
  | 9 => ⟨S768, .f32⟩
  | 10 => ⟨S4x32x32x768, .f32⟩
  | 11 => ⟨S1x1x1x768, .f32⟩
  | 12 => ⟨S4x32x32x768, .f32⟩
  | 13 => ⟨S4x32x32x768, .f32⟩
  | 14 => ⟨S4x32x32x12x64, .f32⟩
  | 15 => ⟨S4x12x64x32x32, .f32⟩
  | 16 => ⟨S48x64x32x32, .f32⟩
  | 17 => ⟨S4x1024x768, .f32⟩
  | 18 => ⟨S4x1024x192, .f32⟩
  | 19 => ⟨S1x1x192, .f32⟩
  | 20 => ⟨S4x1024x192, .f32⟩
  | 21 => ⟨S4x1024x192, .f32⟩
  | 22 => ⟨S4x1024x12x8x2, .f32⟩
  | 23 => ⟨S4x1024x96, .f32⟩
  | 24 => ⟨S1x1x96, .f32⟩
  | 25 => ⟨S4x1024x96, .f32⟩
  | 26 => ⟨S4x1024x96, .f32⟩
  | 27 => ⟨S4x1024x12x8, .f32⟩
  | 28 => ⟨S_, .f32⟩
  | 29 => ⟨S4x1024x12, .f32⟩
  | 30 => ⟨S_, .f32⟩
  | 31 => ⟨S4x1024x12, .f32⟩
  | 32 => ⟨S4x1024x12, .f32⟩
  | 33 => ⟨S4x1024x12x1, .f32⟩
  | 34 => ⟨S4x1024x12x8, .f32⟩
  | 35 => ⟨S4x1024x12x8, .f32⟩
  | 36 => ⟨S4x1024x12x8, .f32⟩
  | 37 => ⟨S_, .f32⟩
  | 38 => ⟨S4x1024x12, .f32⟩
  | 39 => ⟨S4x1024x12x1, .f32⟩
  | 40 => ⟨S4x1024x12x8, .f32⟩
  | 41 => ⟨S4x1024x12x8, .f32⟩
  | 42 => ⟨S4x1024x2, .f32⟩
  | 43 => ⟨S4x1024x1x1x2, .f32⟩
  | 44 => ⟨S4x1024x12x8x2, .f32⟩
  | 45 => ⟨S4x1024x12x8x2, .f32⟩
  | 46 => ⟨S_, .f32⟩
  | 47 => ⟨S4x1024x12x8x2, .f32⟩
  | 48 => ⟨S4x1024x12x8x2, .f32⟩
  | 49 => ⟨S_, .f32⟩
  | 50 => ⟨S4x1024x12x8x2, .f32⟩
  | 51 => ⟨S4x1024x12x8x2, .f32⟩
  | 52 => ⟨S4x12x1024x8x2, .f32⟩
  | 53 => ⟨S48x1024x8x2, .f32⟩
  | 54 => ⟨S48x1024x8x1, .f32⟩
  | 55 => ⟨S48x1024x8, .f32⟩
  | 56 => ⟨S_, .f32⟩
  | 57 => ⟨S48x1024x8, .f32⟩
  | 58 => ⟨S48x1024x8, .f32⟩
  | 59 => ⟨S_, .f32⟩
  | 60 => ⟨S48x1024x8, .f32⟩
  | 61 => ⟨S48x1024x8, .f32⟩
  | 62 => ⟨S_, .f32⟩
  | 63 => ⟨S48x1024x8, .f32⟩
  | 64 => ⟨S48x1024x8, .f32⟩
  | 65 => ⟨S_, .f32⟩
  | 66 => ⟨S48x1024x8, .f32⟩
  | 67 => ⟨S48x1024x8, .f32⟩
  | 68 => ⟨S48x1024x8x1, .f32⟩
  | 69 => ⟨S48x1024x8, .f32⟩
  | 70 => ⟨S_, .f32⟩
  | 71 => ⟨S48x1024x8, .f32⟩
  | 72 => ⟨S48x1024x8, .f32⟩
  | 73 => ⟨S_, .f32⟩
  | 74 => ⟨S48x1024x8, .f32⟩
  | 75 => ⟨S48x1024x8, .f32⟩
  | 76 => ⟨S_, .f32⟩
  | 77 => ⟨S48x1024x8, .f32⟩
  | 78 => ⟨S48x1024x8, .f32⟩
  | 79 => ⟨S_, .f32⟩
  | 80 => ⟨S48x1024x8, .f32⟩
  | 81 => ⟨S48x1024x8, .f32⟩
  | 82 => ⟨S48x1024x8, .f32⟩
  | 83 => ⟨S48x1024x8, .f32⟩
  | 84 => ⟨S_, .f32⟩
  | 85 => ⟨S48x1024x8, .f32⟩
  | 86 => ⟨S48x1024x8, .f32⟩
  | 87 => ⟨S_, .f32⟩
  | 88 => ⟨S48x1024x8, .f32⟩
  | 89 => ⟨S48x1024x8, .f32⟩
  | 90 => ⟨S48x1024x8, .f32⟩
  | 91 => ⟨S_, .f32⟩
  | 92 => ⟨S48x1024x8, .f32⟩
  | 93 => ⟨S48x1024x8, .f32⟩
  | 94 => ⟨S48x1024x8, .f32⟩
  | 95 => ⟨S_, .f32⟩
  | 96 => ⟨S48x1024x8, .f32⟩
  | 97 => ⟨S48x1024x8, .f32⟩
  | 98 => ⟨S_, .f32⟩
  | 99 => ⟨S48x1024x8, .f32⟩
  | 100 => ⟨S48x1024x8, .i1⟩
  | 101 => ⟨S_, .f32⟩
  | 102 => ⟨S48x1024x8, .f32⟩
  | 103 => ⟨S48x1024x8, .i1⟩
  | 104 => ⟨S48x1024x8, .i1⟩
  | 105 => ⟨S_, .f32⟩
  | 106 => ⟨S48x1024x8, .f32⟩
  | 107 => ⟨S48x1024x8, .i1⟩
  | 108 => ⟨S48x1024x8, .i1⟩
  | 109 => ⟨S_, .f32⟩
  | 110 => ⟨S48x1024x8, .f32⟩
  | 111 => ⟨S48x1024x8, .i1⟩
  | 112 => ⟨S48x1024x8, .i1⟩
  | 113 => ⟨S_, .i32⟩
  | 114 => ⟨S_, .i32⟩
  | 115 => ⟨S_, .f32⟩
  | 116 => ⟨S48x1024x8, .f32⟩
  | 117 => ⟨S48x1024x8, .f32⟩
  | 118 => ⟨S_, .f32⟩
  | 119 => ⟨S48x1024x8, .f32⟩
  | 120 => ⟨S48x1024x8, .f32⟩
  | 121 => ⟨S48x1024x8, .i32⟩
  | 122 => ⟨S_, .i32⟩
  | 123 => ⟨S_, .i32⟩
  | 124 => ⟨S_, .f32⟩
  | 125 => ⟨S48x1024x8, .f32⟩
  | 126 => ⟨S48x1024x8, .f32⟩
  | 127 => ⟨S_, .f32⟩
  | _ => ⟨S4x32x32x768, .f32⟩

abbrev hbmTy0_1 (i : Nat) : BufTy := match i % 128 with
  | 0 => ⟨S48x1024x8, .f32⟩
  | 1 => ⟨S48x1024x8, .f32⟩
  | 2 => ⟨S48x1024x8, .i32⟩
  | 3 => ⟨S_, .i32⟩
  | 4 => ⟨S48x1024x8, .i32⟩
  | 5 => ⟨S48x1024x8, .i1⟩
  | 6 => ⟨S_, .i32⟩
  | 7 => ⟨S48x1024x8, .i32⟩
  | 8 => ⟨S48x1024x8, .i32⟩
  | 9 => ⟨S48x1024x8, .i32⟩
  | 10 => ⟨S_, .i32⟩
  | 11 => ⟨S48x1024x8, .i32⟩
  | 12 => ⟨S48x1024x8, .i1⟩
  | 13 => ⟨S_, .i32⟩
  | 14 => ⟨S48x1024x8, .i32⟩
  | 15 => ⟨S48x1024x8, .i32⟩
  | 16 => ⟨S48x1024x8, .i32⟩
  | 17 => ⟨S48x1024x8x1, .i32⟩
  | 18 => ⟨S48x1024x8x1, .i32⟩
  | 19 => ⟨S48x1024x8x2, .i32⟩
  | 20 => ⟨S48x64x1024x8, .f32⟩
  | 21 => ⟨S48x1x1024x8, .i1⟩
  | 22 => ⟨S48x1x1024x8, .f32⟩
  | 23 => ⟨S48x64x1024x8, .f32⟩
  | 24 => ⟨S48x64x1024x8, .f32⟩
  | 25 => ⟨S48x1024x8, .f32⟩
  | 26 => ⟨S48x1x1024x8, .f32⟩
  | 27 => ⟨S48x64x1024x8, .f32⟩
  | 28 => ⟨S48x64x1024x8, .f32⟩
  | 29 => ⟨S_, .f32⟩
  | 30 => ⟨S48x1024x8, .f32⟩
  | 31 => ⟨S48x1024x8, .i1⟩
  | 32 => ⟨S_, .f32⟩
  | 33 => ⟨S48x1024x8, .f32⟩
  | 34 => ⟨S48x1024x8, .i1⟩
  | 35 => ⟨S48x1024x8, .i1⟩
  | 36 => ⟨S_, .f32⟩
  | 37 => ⟨S48x1024x8, .f32⟩
  | 38 => ⟨S48x1024x8, .i1⟩
  | 39 => ⟨S48x1024x8, .i1⟩
  | 40 => ⟨S_, .f32⟩
  | 41 => ⟨S48x1024x8, .f32⟩
  | 42 => ⟨S48x1024x8, .i1⟩
  | 43 => ⟨S48x1024x8, .i1⟩
  | 44 => ⟨S_, .i32⟩
  | 45 => ⟨S_, .i32⟩
  | 46 => ⟨S_, .f32⟩
  | 47 => ⟨S48x1024x8, .f32⟩
  | 48 => ⟨S48x1024x8, .f32⟩
  | 49 => ⟨S_, .f32⟩
  | 50 => ⟨S48x1024x8, .f32⟩
  | 51 => ⟨S48x1024x8, .f32⟩
  | 52 => ⟨S48x1024x8, .i32⟩
  | 53 => ⟨S_, .i32⟩
  | 54 => ⟨S_, .i32⟩
  | 55 => ⟨S_, .f32⟩
  | 56 => ⟨S48x1024x8, .f32⟩
  | 57 => ⟨S48x1024x8, .f32⟩
  | 58 => ⟨S_, .f32⟩
  | 59 => ⟨S48x1024x8, .f32⟩
  | 60 => ⟨S48x1024x8, .f32⟩
  | 61 => ⟨S48x1024x8, .i32⟩
  | 62 => ⟨S_, .i32⟩
  | 63 => ⟨S48x1024x8, .i32⟩
  | 64 => ⟨S48x1024x8, .i1⟩
  | 65 => ⟨S_, .i32⟩
  | 66 => ⟨S48x1024x8, .i32⟩
  | 67 => ⟨S48x1024x8, .i32⟩
  | 68 => ⟨S48x1024x8, .i32⟩
  | 69 => ⟨S_, .i32⟩
  | 70 => ⟨S48x1024x8, .i32⟩
  | 71 => ⟨S48x1024x8, .i1⟩
  | 72 => ⟨S_, .i32⟩
  | 73 => ⟨S48x1024x8, .i32⟩
  | 74 => ⟨S48x1024x8, .i32⟩
  | 75 => ⟨S48x1024x8, .i32⟩
  | 76 => ⟨S48x1024x8x1, .i32⟩
  | 77 => ⟨S48x1024x8x1, .i32⟩
  | 78 => ⟨S48x1024x8x2, .i32⟩
  | 79 => ⟨S48x64x1024x8, .f32⟩
  | 80 => ⟨S48x1x1024x8, .i1⟩
  | 81 => ⟨S48x1x1024x8, .f32⟩
  | 82 => ⟨S48x64x1024x8, .f32⟩
  | 83 => ⟨S48x64x1024x8, .f32⟩
  | 84 => ⟨S48x1024x8, .f32⟩
  | 85 => ⟨S48x1x1024x8, .f32⟩
  | 86 => ⟨S48x64x1024x8, .f32⟩
  | 87 => ⟨S48x64x1024x8, .f32⟩
  | 88 => ⟨S_, .f32⟩
  | 89 => ⟨S48x1024x8, .f32⟩
  | 90 => ⟨S48x1024x8, .i1⟩
  | 91 => ⟨S_, .f32⟩
  | 92 => ⟨S48x1024x8, .f32⟩
  | 93 => ⟨S48x1024x8, .i1⟩
  | 94 => ⟨S48x1024x8, .i1⟩
  | 95 => ⟨S_, .f32⟩
  | 96 => ⟨S48x1024x8, .f32⟩
  | 97 => ⟨S48x1024x8, .i1⟩
  | 98 => ⟨S48x1024x8, .i1⟩
  | 99 => ⟨S_, .f32⟩
  | 100 => ⟨S48x1024x8, .f32⟩
  | 101 => ⟨S48x1024x8, .i1⟩
  | 102 => ⟨S48x1024x8, .i1⟩
  | 103 => ⟨S_, .i32⟩
  | 104 => ⟨S_, .i32⟩
  | 105 => ⟨S_, .f32⟩
  | 106 => ⟨S48x1024x8, .f32⟩
  | 107 => ⟨S48x1024x8, .f32⟩
  | 108 => ⟨S_, .f32⟩
  | 109 => ⟨S48x1024x8, .f32⟩
  | 110 => ⟨S48x1024x8, .f32⟩
  | 111 => ⟨S48x1024x8, .i32⟩
  | 112 => ⟨S_, .i32⟩
  | 113 => ⟨S_, .i32⟩
  | 114 => ⟨S_, .f32⟩
  | 115 => ⟨S48x1024x8, .f32⟩
  | 116 => ⟨S48x1024x8, .f32⟩
  | 117 => ⟨S_, .f32⟩
  | 118 => ⟨S48x1024x8, .f32⟩
  | 119 => ⟨S48x1024x8, .f32⟩
  | 120 => ⟨S48x1024x8, .i32⟩
  | 121 => ⟨S_, .i32⟩
  | 122 => ⟨S48x1024x8, .i32⟩
  | 123 => ⟨S48x1024x8, .i1⟩
  | 124 => ⟨S_, .i32⟩
  | 125 => ⟨S48x1024x8, .i32⟩
  | 126 => ⟨S48x1024x8, .i32⟩
  | 127 => ⟨S48x1024x8, .i32⟩
  | _ => ⟨S4x32x32x768, .f32⟩

abbrev hbmTy0_2 (i : Nat) : BufTy := match i % 128 with
  | 0 => ⟨S_, .i32⟩
  | 1 => ⟨S48x1024x8, .i32⟩
  | 2 => ⟨S48x1024x8, .i1⟩
  | 3 => ⟨S_, .i32⟩
  | 4 => ⟨S48x1024x8, .i32⟩
  | 5 => ⟨S48x1024x8, .i32⟩
  | 6 => ⟨S48x1024x8, .i32⟩
  | 7 => ⟨S48x1024x8x1, .i32⟩
  | 8 => ⟨S48x1024x8x1, .i32⟩
  | 9 => ⟨S48x1024x8x2, .i32⟩
  | 10 => ⟨S48x64x1024x8, .f32⟩
  | 11 => ⟨S48x1x1024x8, .i1⟩
  | 12 => ⟨S48x1x1024x8, .f32⟩
  | 13 => ⟨S48x64x1024x8, .f32⟩
  | 14 => ⟨S48x64x1024x8, .f32⟩
  | 15 => ⟨S48x1024x8, .f32⟩
  | 16 => ⟨S48x1x1024x8, .f32⟩
  | 17 => ⟨S48x64x1024x8, .f32⟩
  | 18 => ⟨S48x64x1024x8, .f32⟩
  | 19 => ⟨S_, .f32⟩
  | 20 => ⟨S48x1024x8, .f32⟩
  | 21 => ⟨S48x1024x8, .i1⟩
  | 22 => ⟨S_, .f32⟩
  | 23 => ⟨S48x1024x8, .f32⟩
  | 24 => ⟨S48x1024x8, .i1⟩
  | 25 => ⟨S48x1024x8, .i1⟩
  | 26 => ⟨S_, .f32⟩
  | 27 => ⟨S48x1024x8, .f32⟩
  | 28 => ⟨S48x1024x8, .i1⟩
  | 29 => ⟨S48x1024x8, .i1⟩
  | 30 => ⟨S_, .f32⟩
  | 31 => ⟨S48x1024x8, .f32⟩
  | 32 => ⟨S48x1024x8, .i1⟩
  | 33 => ⟨S48x1024x8, .i1⟩
  | 34 => ⟨S_, .i32⟩
  | 35 => ⟨S_, .i32⟩
  | 36 => ⟨S_, .f32⟩
  | 37 => ⟨S48x1024x8, .f32⟩
  | 38 => ⟨S48x1024x8, .f32⟩
  | 39 => ⟨S_, .f32⟩
  | 40 => ⟨S48x1024x8, .f32⟩
  | 41 => ⟨S48x1024x8, .f32⟩
  | 42 => ⟨S48x1024x8, .i32⟩
  | 43 => ⟨S_, .i32⟩
  | 44 => ⟨S_, .i32⟩
  | 45 => ⟨S_, .f32⟩
  | 46 => ⟨S48x1024x8, .f32⟩
  | 47 => ⟨S48x1024x8, .f32⟩
  | 48 => ⟨S_, .f32⟩
  | 49 => ⟨S48x1024x8, .f32⟩
  | 50 => ⟨S48x1024x8, .f32⟩
  | 51 => ⟨S48x1024x8, .i32⟩
  | 52 => ⟨S_, .i32⟩
  | 53 => ⟨S48x1024x8, .i32⟩
  | 54 => ⟨S48x1024x8, .i1⟩
  | 55 => ⟨S_, .i32⟩
  | 56 => ⟨S48x1024x8, .i32⟩
  | 57 => ⟨S48x1024x8, .i32⟩
  | 58 => ⟨S48x1024x8, .i32⟩
  | 59 => ⟨S_, .i32⟩
  | 60 => ⟨S48x1024x8, .i32⟩
  | 61 => ⟨S48x1024x8, .i1⟩
  | 62 => ⟨S_, .i32⟩
  | 63 => ⟨S48x1024x8, .i32⟩
  | 64 => ⟨S48x1024x8, .i32⟩
  | 65 => ⟨S48x1024x8, .i32⟩
  | 66 => ⟨S48x1024x8x1, .i32⟩
  | 67 => ⟨S48x1024x8x1, .i32⟩
  | 68 => ⟨S48x1024x8x2, .i32⟩
  | 69 => ⟨S48x64x1024x8, .f32⟩
  | 70 => ⟨S48x1x1024x8, .i1⟩
  | 71 => ⟨S48x1x1024x8, .f32⟩
  | 72 => ⟨S48x64x1024x8, .f32⟩
  | 73 => ⟨S48x64x1024x8, .f32⟩
  | 74 => ⟨S48x1024x8, .f32⟩
  | 75 => ⟨S48x1x1024x8, .f32⟩
  | 76 => ⟨S48x64x1024x8, .f32⟩
  | 77 => ⟨S48x64x1024x8, .f32⟩
  | 78 => ⟨S48x64x1024x8, .f32⟩
  | 79 => ⟨S48x64x1024x8, .f32⟩
  | 80 => ⟨S48x64x1024x8, .f32⟩
  | 81 => ⟨S4x12x1024x8, .f32⟩
  | 82 => ⟨S48x1024x8, .f32⟩
  | 83 => ⟨S48x1024x8x64, .f32⟩
  | 84 => ⟨S48x1024x8x1, .f32⟩
  | 85 => ⟨S48x1024x8x64, .f32⟩
  | 86 => ⟨S48x1024x8x64, .f32⟩
  | 87 => ⟨S_, .f32⟩
  | 88 => ⟨S48x1024x64, .f32⟩
  | 89 => ⟨S4x12x1024x64, .f32⟩
  | 90 => ⟨S4x1024x12x64, .f32⟩
  | 91 => ⟨S4x1024x768, .f32⟩
  | 92 => ⟨S4x1024x768, .f32⟩
  | 93 => ⟨S1x1x768, .f32⟩
  | 94 => ⟨S4x1024x768, .f32⟩
  | 95 => ⟨S4x1024x768, .f32⟩
  | 96 => ⟨S4x32x32x768, .f32⟩
  | _ => ⟨S4x32x32x768, .f32⟩

abbrev hbmTy (i : Nat) : BufTy := match i / 128 with
  | 0 => hbmTy0_0 i
  | 1 => hbmTy0_1 i
  | 2 => hbmTy0_2 i
  | _ => ⟨S4x32x32x768, .f32⟩

abbrev bufTy : (tb : Table) → Fin (tcTables nBuf tb) → BufTy
  | .hbm, ⟨i, _⟩ => hbmTy i
  | _, _ => ⟨S4x32x32x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_15 : Ref sig .tc := ⟨.hbm, 95, rfl⟩
abbrev main_v69 : Ref sig .tc := ⟨.hbm, 96, rfl⟩
abbrev main_v70 : Ref sig .tc := ⟨.hbm, 97, rfl⟩
abbrev main_cst_16 : Ref sig .tc := ⟨.hbm, 98, rfl⟩
abbrev main_v71 : Ref sig .tc := ⟨.hbm, 99, rfl⟩
abbrev main_v72 : Ref sig .tc := ⟨.hbm, 100, rfl⟩
abbrev main_cst_17 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_18 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_19 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c : Ref sig .tc := ⟨.hbm, 113, rfl⟩
abbrev main_c_20 : Ref sig .tc := ⟨.hbm, 114, rfl⟩
abbrev main_call0_v0 : Ref sig .tc := ⟨.hbm, 115, rfl⟩
abbrev main_call0_v1 : Ref sig .tc := ⟨.hbm, 116, rfl⟩
abbrev main_call0_v2 : Ref sig .tc := ⟨.hbm, 117, rfl⟩
abbrev main_call0_v3 : Ref sig .tc := ⟨.hbm, 118, rfl⟩
abbrev main_call0_v4 : Ref sig .tc := ⟨.hbm, 119, rfl⟩
abbrev main_v82 : Ref sig .tc := ⟨.hbm, 120, rfl⟩
abbrev main_v83 : Ref sig .tc := ⟨.hbm, 121, rfl⟩
abbrev main_c_21 : Ref sig .tc := ⟨.hbm, 122, rfl⟩
abbrev main_c_22 : Ref sig .tc := ⟨.hbm, 123, rfl⟩
abbrev main_call1_v0 : Ref sig .tc := ⟨.hbm, 124, rfl⟩
abbrev main_call1_v1 : Ref sig .tc := ⟨.hbm, 125, rfl⟩
abbrev main_call1_v2 : Ref sig .tc := ⟨.hbm, 126, rfl⟩
abbrev main_call1_v3 : Ref sig .tc := ⟨.hbm, 127, rfl⟩
abbrev main_call1_v4 : Ref sig .tc := ⟨.hbm, 128, rfl⟩
abbrev main_v84 : Ref sig .tc := ⟨.hbm, 129, rfl⟩
abbrev main_v85 : Ref sig .tc := ⟨.hbm, 130, rfl⟩
abbrev main_c_23 : Ref sig .tc := ⟨.hbm, 131, rfl⟩
abbrev main_v86 : Ref sig .tc := ⟨.hbm, 132, rfl⟩
abbrev main_v87 : Ref sig .tc := ⟨.hbm, 133, rfl⟩
abbrev main_c_24 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_c_25 : Ref sig .tc := ⟨.hbm, 138, rfl⟩
abbrev main_v91 : Ref sig .tc := ⟨.hbm, 139, rfl⟩
abbrev main_v92 : Ref sig .tc := ⟨.hbm, 140, rfl⟩
abbrev main_c_26 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_cst_27 : Ref sig .tc := ⟨.hbm, 157, rfl⟩
abbrev main_v108 : Ref sig .tc := ⟨.hbm, 158, rfl⟩
abbrev main_v109 : Ref sig .tc := ⟨.hbm, 159, rfl⟩
abbrev main_cst_28 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_cst_29 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_cst_30 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_c_31 : Ref sig .tc := ⟨.hbm, 172, rfl⟩
abbrev main_c_32 : Ref sig .tc := ⟨.hbm, 173, rfl⟩
abbrev main_call2_v0 : Ref sig .tc := ⟨.hbm, 174, rfl⟩
abbrev main_call2_v1 : Ref sig .tc := ⟨.hbm, 175, rfl⟩
abbrev main_call2_v2 : Ref sig .tc := ⟨.hbm, 176, rfl⟩
abbrev main_call2_v3 : Ref sig .tc := ⟨.hbm, 177, rfl⟩
abbrev main_call2_v4 : Ref sig .tc := ⟨.hbm, 178, rfl⟩
abbrev main_v119 : Ref sig .tc := ⟨.hbm, 179, rfl⟩
abbrev main_v120 : Ref sig .tc := ⟨.hbm, 180, rfl⟩
abbrev main_c_33 : Ref sig .tc := ⟨.hbm, 181, rfl⟩
abbrev main_c_34 : Ref sig .tc := ⟨.hbm, 182, rfl⟩
abbrev main_call3_v0 : Ref sig .tc := ⟨.hbm, 183, rfl⟩
abbrev main_call3_v1 : Ref sig .tc := ⟨.hbm, 184, rfl⟩
abbrev main_call3_v2 : Ref sig .tc := ⟨.hbm, 185, rfl⟩
abbrev main_call3_v3 : Ref sig .tc := ⟨.hbm, 186, rfl⟩
abbrev main_call3_v4 : Ref sig .tc := ⟨.hbm, 187, rfl⟩
abbrev main_v121 : Ref sig .tc := ⟨.hbm, 188, rfl⟩
abbrev main_v122 : Ref sig .tc := ⟨.hbm, 189, rfl⟩
abbrev main_c_35 : Ref sig .tc := ⟨.hbm, 190, rfl⟩
abbrev main_v123 : Ref sig .tc := ⟨.hbm, 191, rfl⟩
abbrev main_v124 : Ref sig .tc := ⟨.hbm, 192, rfl⟩
abbrev main_c_36 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_c_37 : Ref sig .tc := ⟨.hbm, 197, rfl⟩
abbrev main_v128 : Ref sig .tc := ⟨.hbm, 198, rfl⟩
abbrev main_v129 : Ref sig .tc := ⟨.hbm, 199, rfl⟩
abbrev main_c_38 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_cst_39 : Ref sig .tc := ⟨.hbm, 216, rfl⟩
abbrev main_v145 : Ref sig .tc := ⟨.hbm, 217, rfl⟩
abbrev main_v146 : Ref sig .tc := ⟨.hbm, 218, rfl⟩
abbrev main_cst_40 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_cst_41 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_cst_42 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_c_43 : Ref sig .tc := ⟨.hbm, 231, rfl⟩
abbrev main_c_44 : Ref sig .tc := ⟨.hbm, 232, rfl⟩
abbrev main_call4_v0 : Ref sig .tc := ⟨.hbm, 233, rfl⟩
abbrev main_call4_v1 : Ref sig .tc := ⟨.hbm, 234, rfl⟩
abbrev main_call4_v2 : Ref sig .tc := ⟨.hbm, 235, rfl⟩
abbrev main_call4_v3 : Ref sig .tc := ⟨.hbm, 236, rfl⟩
abbrev main_call4_v4 : Ref sig .tc := ⟨.hbm, 237, rfl⟩
abbrev main_v156 : Ref sig .tc := ⟨.hbm, 238, rfl⟩
abbrev main_v157 : Ref sig .tc := ⟨.hbm, 239, rfl⟩
abbrev main_c_45 : Ref sig .tc := ⟨.hbm, 240, rfl⟩
abbrev main_c_46 : Ref sig .tc := ⟨.hbm, 241, rfl⟩
abbrev main_call5_v0 : Ref sig .tc := ⟨.hbm, 242, rfl⟩
abbrev main_call5_v1 : Ref sig .tc := ⟨.hbm, 243, rfl⟩
abbrev main_call5_v2 : Ref sig .tc := ⟨.hbm, 244, rfl⟩
abbrev main_call5_v3 : Ref sig .tc := ⟨.hbm, 245, rfl⟩
abbrev main_call5_v4 : Ref sig .tc := ⟨.hbm, 246, rfl⟩
abbrev main_v158 : Ref sig .tc := ⟨.hbm, 247, rfl⟩
abbrev main_v159 : Ref sig .tc := ⟨.hbm, 248, rfl⟩
abbrev main_c_47 : Ref sig .tc := ⟨.hbm, 249, rfl⟩
abbrev main_v160 : Ref sig .tc := ⟨.hbm, 250, rfl⟩
abbrev main_v161 : Ref sig .tc := ⟨.hbm, 251, rfl⟩
abbrev main_c_48 : Ref sig .tc := ⟨.hbm, 252, rfl⟩
abbrev main_v162 : Ref sig .tc := ⟨.hbm, 253, rfl⟩
abbrev main_v163 : Ref sig .tc := ⟨.hbm, 254, rfl⟩
abbrev main_v164 : Ref sig .tc := ⟨.hbm, 255, rfl⟩
abbrev main_c_49 : Ref sig .tc := ⟨.hbm, 256, rfl⟩
abbrev main_v165 : Ref sig .tc := ⟨.hbm, 257, rfl⟩
abbrev main_v166 : Ref sig .tc := ⟨.hbm, 258, rfl⟩
abbrev main_c_50 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_v178 : Ref sig .tc := ⟨.hbm, 271, rfl⟩
abbrev main_v179 : Ref sig .tc := ⟨.hbm, 272, rfl⟩
abbrev main_v180 : Ref sig .tc := ⟨.hbm, 273, rfl⟩
abbrev main_v181 : Ref sig .tc := ⟨.hbm, 274, rfl⟩
abbrev main_cst_51 : Ref sig .tc := ⟨.hbm, 275, rfl⟩
abbrev main_v182 : Ref sig .tc := ⟨.hbm, 276, rfl⟩
abbrev main_v183 : Ref sig .tc := ⟨.hbm, 277, rfl⟩
abbrev main_cst_52 : Ref sig .tc := ⟨.hbm, 278, rfl⟩
abbrev main_v184 : Ref sig .tc := ⟨.hbm, 279, rfl⟩
abbrev main_v185 : Ref sig .tc := ⟨.hbm, 280, rfl⟩
abbrev main_v186 : Ref sig .tc := ⟨.hbm, 281, rfl⟩
abbrev main_cst_53 : Ref sig .tc := ⟨.hbm, 282, rfl⟩
abbrev main_v187 : Ref sig .tc := ⟨.hbm, 283, rfl⟩
abbrev main_v188 : Ref sig .tc := ⟨.hbm, 284, rfl⟩
abbrev main_v189 : Ref sig .tc := ⟨.hbm, 285, rfl⟩
abbrev main_cst_54 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩
abbrev main_c_55 : Ref sig .tc := ⟨.hbm, 290, rfl⟩
abbrev main_c_56 : Ref sig .tc := ⟨.hbm, 291, rfl⟩
abbrev main_call6_v0 : Ref sig .tc := ⟨.hbm, 292, rfl⟩
abbrev main_call6_v1 : Ref sig .tc := ⟨.hbm, 293, rfl⟩
abbrev main_call6_v2 : Ref sig .tc := ⟨.hbm, 294, rfl⟩
abbrev main_call6_v3 : Ref sig .tc := ⟨.hbm, 295, rfl⟩
abbrev main_call6_v4 : Ref sig .tc := ⟨.hbm, 296, rfl⟩
abbrev main_v193 : Ref sig .tc := ⟨.hbm, 297, rfl⟩
abbrev main_v194 : Ref sig .tc := ⟨.hbm, 298, rfl⟩
abbrev main_c_57 : Ref sig .tc := ⟨.hbm, 299, rfl⟩
abbrev main_c_58 : Ref sig .tc := ⟨.hbm, 300, rfl⟩
abbrev main_call7_v0 : Ref sig .tc := ⟨.hbm, 301, rfl⟩
abbrev main_call7_v1 : Ref sig .tc := ⟨.hbm, 302, rfl⟩
abbrev main_call7_v2 : Ref sig .tc := ⟨.hbm, 303, rfl⟩
abbrev main_call7_v3 : Ref sig .tc := ⟨.hbm, 304, rfl⟩
abbrev main_call7_v4 : Ref sig .tc := ⟨.hbm, 305, rfl⟩
abbrev main_v195 : Ref sig .tc := ⟨.hbm, 306, rfl⟩
abbrev main_v196 : Ref sig .tc := ⟨.hbm, 307, rfl⟩
abbrev main_c_59 : Ref sig .tc := ⟨.hbm, 308, rfl⟩
abbrev main_v197 : Ref sig .tc := ⟨.hbm, 309, rfl⟩
abbrev main_v198 : Ref sig .tc := ⟨.hbm, 310, rfl⟩
abbrev main_c_60 : Ref sig .tc := ⟨.hbm, 311, rfl⟩
abbrev main_v199 : Ref sig .tc := ⟨.hbm, 312, rfl⟩
abbrev main_v200 : Ref sig .tc := ⟨.hbm, 313, rfl⟩
abbrev main_v201 : Ref sig .tc := ⟨.hbm, 314, rfl⟩
abbrev main_c_61 : Ref sig .tc := ⟨.hbm, 315, rfl⟩
abbrev main_v202 : Ref sig .tc := ⟨.hbm, 316, rfl⟩
abbrev main_v203 : Ref sig .tc := ⟨.hbm, 317, rfl⟩
abbrev main_c_62 : Ref sig .tc := ⟨.hbm, 318, rfl⟩
abbrev main_v204 : Ref sig .tc := ⟨.hbm, 319, rfl⟩
abbrev main_v205 : Ref sig .tc := ⟨.hbm, 320, rfl⟩
abbrev main_v206 : Ref sig .tc := ⟨.hbm, 321, rfl⟩
abbrev main_v207 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_v211 : Ref sig .tc := ⟨.hbm, 326, rfl⟩
abbrev main_v212 : Ref sig .tc := ⟨.hbm, 327, rfl⟩
abbrev main_v213 : Ref sig .tc := ⟨.hbm, 328, rfl⟩
abbrev main_v214 : Ref sig .tc := ⟨.hbm, 329, rfl⟩
abbrev main_v215 : Ref sig .tc := ⟨.hbm, 330, rfl⟩
abbrev main_v216 : Ref sig .tc := ⟨.hbm, 331, rfl⟩
abbrev main_v217 : Ref sig .tc := ⟨.hbm, 332, rfl⟩
abbrev main_v218 : Ref sig .tc := ⟨.hbm, 333, rfl⟩
abbrev main_v219 : Ref sig .tc := ⟨.hbm, 334, rfl⟩
abbrev main_v220 : Ref sig .tc := ⟨.hbm, 335, rfl⟩
abbrev main_v221 : Ref sig .tc := ⟨.hbm, 336, rfl⟩
abbrev main_v222 : Ref sig .tc := ⟨.hbm, 337, rfl⟩
abbrev main_v223 : Ref sig .tc := ⟨.hbm, 338, rfl⟩
abbrev main_v224 : Ref sig .tc := ⟨.hbm, 339, rfl⟩
abbrev main_v225 : Ref sig .tc := ⟨.hbm, 340, rfl⟩
abbrev main_v226 : Ref sig .tc := ⟨.hbm, 341, rfl⟩
abbrev main_v227 : Ref sig .tc := ⟨.hbm, 342, rfl⟩
abbrev main_cst_63 : Ref sig .tc := ⟨.hbm, 343, rfl⟩
abbrev main_v228 : Ref sig .tc := ⟨.hbm, 344, rfl⟩
abbrev main_v229 : Ref sig .tc := ⟨.hbm, 345, rfl⟩
abbrev main_v230 : Ref sig .tc := ⟨.hbm, 346, rfl⟩
abbrev main_v231 : Ref sig .tc := ⟨.hbm, 347, rfl⟩
abbrev main_v232 : Ref sig .tc := ⟨.hbm, 348, rfl⟩
abbrev main_v233 : Ref sig .tc := ⟨.hbm, 349, rfl⟩
abbrev main_v234 : Ref sig .tc := ⟨.hbm, 350, rfl⟩
abbrev main_v235 : Ref sig .tc := ⟨.hbm, 351, rfl⟩
abbrev main_v236 : Ref sig .tc := ⟨.hbm, 352, rfl⟩

abbrev nD : Nat := 1
abbrev τ : Topo := Topo.v7x

variable {F : FTy → Type} [FloatOps F]
-- ==== Proof.Mix.lean ====
/-
  The mathematics both programs compute, over the extended reals and free of any program: tents, the softmax, and the
  two forms of bilinear sampling.
-/
module

public import Idealize.ShloMosaic.PureOps.Ideal.Laws
public import Mathlib.Data.EReal.Operations

@[expose] public section

noncomputable section

namespace Cert.Own

open Idealize.ShloMosaic

/-- The magnitude of an extended real. -/
def gap (u : EReal) : EReal := max u (-u)

/-- The tent: one at the origin, falling to zero at distance one, and zero beyond. -/
def tent (u : EReal) : EReal := max (1 - gap u) 0

/-- The tent scaled by `a`, in the kernel's form: the scale is multiplied in before the clamp at zero. -/
def lift (a u : EReal) : EReal := max (a - a * gap u) 0

/-- The `p`-th softmax weight of eight logits `z`, with `M` subtracted from each logit first. -/
def softAt (M : EReal) (z : Fin 8 → EReal) (p : Fin 8) : EReal :=
  Ideal.div (Ideal.exp (z p - M)) (∑ x, Ideal.exp (z x - M))

/-- The largest of eight logits, from minus infinity up. -/
def peak (z : Fin 8 → EReal) : EReal := Finset.univ.fold max ⊥ z

/-- Sampling in the kernel's form: the image's 1024 values, each times the sum over the eight points of its weight. -/
def weave (v : Fin 1024 → EReal) (a x y : Fin 8 → EReal) : EReal :=
  ∑ k : Fin 1024, v k * ∑ p : Fin 8, lift (a p) (((k.val % 32 : ℕ) : ℝ) - x p) * tent (((k.val / 32 : ℕ) : ℝ) - y p)

/-- The ten arguments as functions of plain coordinates; a position `l` is row `l / 32`, column `l % 32` of the grid. -/
structure Args where
  /-- the query's channel `e` at image `n`, position `l` -/
  query : Fin 4 → Fin 1024 → Fin 768 → EReal
  /-- the reference point's coordinate `s` (0 across, 1 down) at image `n`, position `l` -/
  point : Fin 4 → Fin 1024 → Fin 2 → EReal
  wOff : Fin 768 → Fin 192 → EReal
  bOff : Fin 192 → EReal
  wAttn : Fin 768 → Fin 96 → EReal
  bAttn : Fin 96 → EReal
  wVal : Fin 768 → Fin 768 → EReal
  bVal : Fin 768 → EReal
  wOut : Fin 768 → Fin 768 → EReal
  bOut : Fin 768 → EReal

namespace Args

variable (A : Args)

/-- Channel `i` of head `h`'s values at image `n`, position `l`. -/
def value (n : Fin 4) (h : Fin 12) (i : Fin 64) (l : Fin 1024) : EReal :=
  (∑ e, A.query n l e * A.wVal e ⟨64 * h.val + i.val, by omega⟩) + A.bVal ⟨64 * h.val + i.val, by omega⟩

/-- Coordinate `s` of the offset of head `h`'s point `p`. -/
def offset (n : Fin 4) (h : Fin 12) (p : Fin 8) (s : Fin 2) (l : Fin 1024) : EReal :=
  (∑ e, A.query n l e * A.wOff e ⟨(8 * h.val + p.val) * 2 + s.val, by omega⟩) + A.bOff ⟨(8 * h.val + p.val) * 2 + s.val, by omega⟩

/-- The attention logit of head `h`'s point `p`. -/
def logit (n : Fin 4) (h : Fin 12) (l : Fin 1024) (p : Fin 8) : EReal :=
  (∑ e, A.query n l e * A.wAttn e ⟨8 * h.val + p.val, by omega⟩) + A.bAttn ⟨8 * h.val + p.val, by omega⟩

/-- The kernel's position of a point, in pixels: the offset scaled by thirty-two inside the projection, added to the
    reference point in pixels. -/
def place (n : Fin 4) (h : Fin 12) (s : Fin 2) (l : Fin 1024) (p : Fin 8) : EReal :=
  ((∑ e, (32 * A.wOff e ⟨(8 * h.val + p.val) * 2 + s.val, by omega⟩) * A.query n l e)
      + 32 * A.bOff ⟨(8 * h.val + p.val) * 2 + s.val, by omega⟩)
    + (A.point n l s * 32 - ((1 / 2 : ℝ) : EReal))

/-- Channel `i` of head `h`'s result at image `n`, position `l`, in the kernel's form. -/
def head (n : Fin 4) (h : Fin 12) (i : Fin 64) (l : Fin 1024) : EReal :=
  weave (A.value n h i) (softAt (peak (A.logit n h l)) (A.logit n h l)) (A.place n h 0 l) (A.place n h 1 l)

/-- Channel `o` of the output at image `n`, position `l`: the output projection of the heads' results. -/
def out (n : Fin 4) (l : Fin 1024) (o : Fin 768) : EReal :=
  (∑ r : Fin 768, A.head n ⟨r.val / 64, by omega⟩ ⟨r.val % 64, by omega⟩ l * A.wOut r o) + A.bOut o

end Args

/-- The bit pattern of thirty-two. -/
theorem ofBits_32 : Ideal.ofBits FTy.f32 1107296256#32 = 32 := by
  simp [Ideal.ofBits, Ideal.ieee]
  rw [← EReal.coe_mul]
  norm_num
  rfl

/-- The bit pattern of one half. -/
theorem ofBits_half : Ideal.ofBits FTy.f32 1056964608#32 = ((1 / 2 : ℝ) : EReal) := by
  simp [Ideal.ofBits, Ideal.ieee]
  rw [← EReal.coe_mul]
  norm_num

end Cert.Own

end
-- ==== Proof.Entry.lean ====
/-
  The arrays the call is entered with, read at an index from the program's arguments.
-/
module

public import proofs.«01_k».proof.Proof.Gen.KernelIdeal.Frame
public import proofs.«01_k».proof.Proof.Mix
public import Idealize.ShloMosaic.Lib.Claim
public import Idealize.ShloMosaic.Lib.Pipeline.ValueKit
public import Idealize.ShloMosaic.Lib.Pointwise
public import Idealize.ShloMosaic.Lib.StableHlo.RunRead

@[expose] public section

set_option maxRecDepth 16384

noncomputable section

namespace Cert.KernelIdeal.Own

open Idealize.ShloMosaic Idealize.ShloMosaic.TcCoe
open Cert.KernelIdeal Cert.KernelIdeal.Gen Cert.Own

variable (m : (ℓ : Loc nD τ sig) → Buf (Elt Ideal) ℓ) (c : Dev nD)

/-- The program's arguments on core `c`, as functions of plain coordinates. -/
def argsOf : Args where
  query n l e := (m ((c : Thread nD τ).loc main_arg0) : S4x32x32x768.Idx → EReal) (ix4 n ⟨l.val / 32, by omega⟩ ⟨l.val % 32, by omega⟩ e)
  point n l s := (m ((c : Thread nD τ).loc main_arg1) : S4x32x32x2.Idx → EReal) (ix4 n ⟨l.val / 32, by omega⟩ ⟨l.val % 32, by omega⟩ s)
  wOff e j := (m ((c : Thread nD τ).loc main_arg2) : S768x192.Idx → EReal) (ix2 e j)
  bOff j := (m ((c : Thread nD τ).loc main_arg3) : S192.Idx → EReal) (ix1 j)
  wAttn e j := (m ((c : Thread nD τ).loc main_arg4) : S768x96.Idx → EReal) (ix2 e j)
  bAttn j := (m ((c : Thread nD τ).loc main_arg5) : S96.Idx → EReal) (ix1 j)
  wVal e j := (m ((c : Thread nD τ).loc main_arg6) : S768x768.Idx → EReal) (ix2 e j)
  bVal j := (m ((c : Thread nD τ).loc main_arg7) : S768.Idx → EReal) (ix1 j)
  wOut e j := (m ((c : Thread nD τ).loc main_arg8) : S768x768.Idx → EReal) (ix2 e j)
  bOut j := (m ((c : Thread nD τ).loc main_arg9) : S768.Idx → EReal) (ix1 j)

/-- The queries, channel before position. -/
theorem entry_query (n : Fin 4) (e : Fin 768) (l : Fin 1024) :
    (V m c main_v1 : S4x768x1024.Idx → EReal) (ix3 n e l) = (argsOf m c).query n l e := by
  unfold V V0 hostOps0
  simp only [List.flatten_cons, List.flatten_nil, List.append_nil]
  after_reads_simp
  pointwise
  rfl

/-- The reference points, in units of a pixel. -/
theorem entry_point (n : Fin 4) (s : Fin 2) (l : Fin 1024) :
    (V m c main_v38 : S4x2x1024.Idx → EReal) (ix3 n s l) = (argsOf m c).point n l s * 32 - ((1 / 2 : ℝ) : EReal) := by
  unfold V V0 hostOps0
  simp only [List.flatten_cons, List.flatten_nil, List.append_nil]
  after_reads_simp
  pointwise
  rw [ofBits_32, ofBits_half]
  rfl

/-- The output weights, transposed. -/
theorem entry_wOut (o r : Fin 768) : (V m c main_v40 : S768x768.Idx → EReal) (ix2 o r) = (argsOf m c).wOut r o := by
  unfold V V0 hostOps0
  simp only [List.flatten_cons, List.flatten_nil, List.append_nil]
  after_reads_simp
  pointwise
  rfl

/-- The output bias, as a column. -/
theorem entry_bOut (o : Fin 768) : (V m c main_v41 : S768x1.Idx → EReal) (ix2 o 0) = (argsOf m c).bOut o := by
  unfold V V0 hostOps0
  simp only [List.flatten_cons, List.flatten_nil, List.append_nil]
  after_reads_simp
  pointwise
  rfl

/-- The heads' joined weights as the host builds them from the value weights `w6`, the offset weights `w2` (whose even
    columns are the offsets across and whose odd columns the offsets down, both scaled) and the attention weights `w4`. -/
def joinedWeights (w6 : S768x768.Idx → EReal) (w2 : S768x192.Idx → EReal) (w4 : S768x96.Idx → EReal) : S12x88x768.Idx → EReal :=
  have w2' : FVec Ideal S768x12x8x2 .f32 := shapeCast _ (w2 : FVec Ideal S768x192 .f32) shapeCasts_S768x192_S768x12x8x2
  have k : FVec Ideal S12x768x8 .f32 := broadcastInDim S12x768x8 ![] bcast_S_S12x768x8 (constant S_ .f32 0x42000000#32)
  have v3 : FVec Ideal S12x768x64 .f32 := transpose S12x768x64 [1, 0, 2]
    (shapeCast S768x12x64 (w6 : FVec Ideal S768x768 .f32) shapeCasts_S768x768_S768x12x64) transposes_S768x12x64_S12x768x64_1_0_2
  have v9 : FVec Ideal S12x768x8 .f32 := mulf k (transpose S12x768x8 [1, 0, 2] (shapeCast S768x12x8 (extractStridedSlice S768x12x8x1 ![0, 0, 0, 0] w2'
    slices_S768x12x8x2_S768x12x8x1_0_0_0_0) shapeCasts_S768x12x8x1_S768x12x8) transposes_S768x12x8_S12x768x8_1_0_2)
  have v14 : FVec Ideal S12x768x8 .f32 := mulf k (transpose S12x768x8 [1, 0, 2] (shapeCast S768x12x8 (extractStridedSlice S768x12x8x1 ![0, 0, 0, 1] w2'
    slices_S768x12x8x2_S768x12x8x1_0_0_0_1) shapeCasts_S768x12x8x1_S768x12x8) transposes_S768x12x8_S12x768x8_1_0_2)
  have v16 : FVec Ideal S12x768x8 .f32 := transpose S12x768x8 [1, 0, 2]
    (shapeCast S768x12x8 (w4 : FVec Ideal S768x96 .f32) shapeCasts_S768x96_S768x12x8) transposes_S768x12x8_S12x768x8_1_0_2
  (transpose S12x88x768 [0, 2, 1] (concatenate S12x768x88 2 [⟨S12x768x64, v3⟩, ⟨S12x768x8, v9⟩, ⟨S12x768x8, v14⟩, ⟨S12x768x8, v16⟩]
    concatenates_S12x768x64_S12x768x8_S12x768x8_S12x768x8_S12x768x88_d2) transposes_S12x768x88_S12x88x768_0_2_1 : FVec Ideal S12x88x768 .f32)

/-- The joined weights at an index: rows of the values, of the points' offsets across and down (scaled by thirty-two), and
    of the attention logits. -/
theorem joinedWeights_apply (w6 : S768x768.Idx → EReal) (w2 : S768x192.Idx → EReal) (w4 : S768x96.Idx → EReal)
    (h : Fin 12) (r : Fin 88) (e : Fin 768) :
    joinedWeights w6 w2 w4 (ix3 h r e)
      = if h1 : r.val < 64 then w6 (ix2 e ⟨h.val * 64 + r.val, by omega⟩)
        else if h2 : r.val - 64 < 8 then 32 * w2 (ix2 e ⟨h.val * 16 + (r.val - 64) * 2, by omega⟩)
        else if h3 : r.val - 64 - 8 < 8 then 32 * w2 (ix2 e ⟨h.val * 16 + (r.val - 64 - 8) * 2 + 1, by omega⟩)
        else w4 (ix2 e ⟨h.val * 8 + (r.val - 64 - 8 - 8), by omega⟩) := by
  rw [← ofBits_32]
  pointwise [joinedWeights]

/-- The call is entered with the joined weights. -/
theorem entry_weights : (V m c main_v18 : S12x88x768.Idx → EReal)
    = joinedWeights (m ((c : Thread nD τ).loc main_arg6) : S768x768.Idx → EReal)
      (m ((c : Thread nD τ).loc main_arg2) : S768x192.Idx → EReal) (m ((c : Thread nD τ).loc main_arg4) : S768x96.Idx → EReal) := by
  unfold V V0 hostOps0
  simp only [List.flatten_cons, List.flatten_nil, List.append_nil]
  after_reads_simp
  rfl

/-- The heads' joined biases as the host builds them, in the same order. -/
def joinedBiases (b7 : S768.Idx → EReal) (b3 : S192.Idx → EReal) (b5 : S96.Idx → EReal) : S12x88x1.Idx → EReal :=
  have b3' : FVec Ideal S12x8x2 .f32 := shapeCast S12x8x2 (b3 : FVec Ideal S192 .f32) shapeCasts_S192_S12x8x2
  have k : FVec Ideal S12x8 .f32 := broadcastInDim S12x8 ![] bcast_S_S12x8 (constant S_ .f32 0x42000000#32)
  have v20 : FVec Ideal S12x64 .f32 := shapeCast S12x64 (b7 : FVec Ideal S768 .f32) shapeCasts_S768_S12x64
  have v24 : FVec Ideal S12x8 .f32 := mulf k (shapeCast S12x8 (extractStridedSlice S12x8x1 ![0, 0, 0] b3' slices_S12x8x2_S12x8x1_0_0_0) shapeCasts_S12x8x1_S12x8)
  have v28 : FVec Ideal S12x8 .f32 := mulf k (shapeCast S12x8 (extractStridedSlice S12x8x1 ![0, 0, 1] b3' slices_S12x8x2_S12x8x1_0_0_1) shapeCasts_S12x8x1_S12x8)
  have v29 : FVec Ideal S12x8 .f32 := shapeCast S12x8 (b5 : FVec Ideal S96 .f32) shapeCasts_S96_S12x8
  (broadcastInDim S12x88x1 ![0, 1] bcast_S12x88_S12x88x1_0_1 (concatenate S12x88 1 [⟨S12x64, v20⟩, ⟨S12x8, v24⟩, ⟨S12x8, v28⟩, ⟨S12x8, v29⟩]
    concatenates_S12x64_S12x8_S12x8_S12x8_S12x88_d1) : FVec Ideal S12x88x1 .f32)

/-- The joined biases at an index. -/
theorem joinedBiases_apply (b7 : S768.Idx → EReal) (b3 : S192.Idx → EReal) (b5 : S96.Idx → EReal) (h : Fin 12) (r : Fin 88) :
    joinedBiases b7 b3 b5 (ix3 h r 0)
      = if h1 : r.val < 64 then b7 (ix1 ⟨h.val * 64 + r.val, by omega⟩)
        else if h2 : r.val - 64 < 8 then 32 * b3 (ix1 ⟨h.val * 16 + (r.val - 64) * 2, by omega⟩)
        else if h3 : r.val - 64 - 8 < 8 then 32 * b3 (ix1 ⟨h.val * 16 + (r.val - 64 - 8) * 2 + 1, by omega⟩)
        else b5 (ix1 ⟨h.val * 8 + (r.val - 64 - 8 - 8), by omega⟩) := by
  rw [← ofBits_32]
  pointwise [joinedBiases]

/-- The call is entered with the joined biases. -/
theorem entry_biases : (V m c main_v31 : S12x88x1.Idx → EReal)
    = joinedBiases (m ((c : Thread nD τ).loc main_arg7) : S768.Idx → EReal)
      (m ((c : Thread nD τ).loc main_arg3) : S192.Idx → EReal) (m ((c : Thread nD τ).loc main_arg5) : S96.Idx → EReal) := by
  unfold V V0 hostOps0
  simp only [List.flatten_cons, List.flatten_nil, List.append_nil]
  after_reads_simp
  rfl

end Cert.KernelIdeal.Own

end
-- ==== Proof.Payload.lean ====
/-
  What the kernel's body computes, in a few named steps.

  The printed body is unrolled over the eight sampling points and the thirty-two rows of the image.  Here each step is
  written once, as a function of the point or the row, at any value type; `RunA`, `RunB` and `RunC` show that the unrolled body stores
  exactly these values.
-/
module

public import proofs.«01_k».proof.Proof.Gen.KernelIdeal.Skeleton
public import Idealize.ShloMosaic.Lib.VecWindow

@[expose] public section

noncomputable section

namespace Cert.KernelIdeal.Own

open Idealize.ShloMosaic Cert.KernelIdeal Cert.KernelIdeal.Gen
open Cert.KernelIdeal.Facts

variable {F : FTy → Type} [FloatOps F]

/-- Row `p` of an eight-row array is a slice of it. -/
theorem slicePoint (p : Fin 8) : S8x1024.Slices ![p.val, 0] S1x1024 := by
  revert p; decide

/-- Row `j` of a thirty-two-row array is a slice of it. -/
theorem sliceRow (j : Fin 32) : S32x1024.Slices ![j.val, 0] S1x1024 := by
  revert j; decide

/-- Point `p`'s weighted horizontal tent over the thirty-two columns `g`: the larger of `a − a·|g − x|` and zero. -/
def txPay (a x : FVec F S8x1024 .f32) (g : FVec F S32x1 .f32) (p : Fin 8) : FVec F S32x1024 .bf16 :=
  have w : FVec F S32x1024 .f32 := broadcastTo S32x1024 (extractStridedSlice S1x1024 ![p.val, 0] a (slicePoint p)) broadcasts_S1x1024_S32x1024
  have d : FVec F S32x1024 .f32 := subf (broadcastTo S32x1024 g broadcasts_S32x1_S32x1024)
    (broadcastTo S32x1024 (extractStridedSlice S1x1024 ![p.val, 0] x (slicePoint p)) broadcasts_S1x1024_S32x1024)
  truncf .bf16 (maximumf (subf w (mulf w (absf d))) (broadcast S32x1024 (Scalar.ofBits .f32 0x00000000#32))) bitsLt_bf16_f32

/-- Point `p`'s vertical tent over the thirty-two rows `g`: the larger of `1 − |g − y|` and zero. -/
def tyPay (y : FVec F S8x1024 .f32) (g : FVec F S32x1 .f32) (p : Fin 8) : FVec F S32x1024 .bf16 :=
  have d : FVec F S32x1024 .f32 := subf (broadcastTo S32x1024 g broadcasts_S32x1_S32x1024)
    (broadcastTo S32x1024 (extractStridedSlice S1x1024 ![p.val, 0] y (slicePoint p)) broadcasts_S1x1024_S32x1024)
  truncf .bf16 (maximumf (subf (broadcast S32x1024 (Scalar.ofBits .f32 0x3F800000#32)) (absf d))
    (broadcast S32x1024 (Scalar.ofBits .f32 0x00000000#32))) bitsLt_bf16_f32

/-- Point `p`'s share of image row `j`: its horizontal tent times its vertical tent's value at row `j`. -/
def termPay (tx ty : Fin 8 → FVec F S32x1024 .bf16) (j : Fin 32) (p : Fin 8) : FVec F S32x1024 .bf16 :=
  mulf (tx p) (broadcastTo S32x1024 (extractStridedSlice S1x1024 ![j.val, 0] (ty p) (sliceRow j)) broadcasts_S1x1024_S32x1024)

/-- Image row `j` of the sampling matrix: the eight points' shares added up, first to last. -/
def rowPay (tx ty : Fin 8 → FVec F S32x1024 .bf16) (j : Fin 32) : FVec F S32x1024 .bf16 :=
  addf (addf (addf (addf (addf (addf (addf (termPay tx ty j 0) (termPay tx ty j 1)) (termPay tx ty j 2)) (termPay tx ty j 3))
    (termPay tx ty j 4)) (termPay tx ty j 5)) (termPay tx ty j 6)) (termPay tx ty j 7)

/-- The list of the thirty-two rows stacks to the sampling matrix's shape. -/
theorem rowsConcat (f : Fin 32 → FVec F S32x1024 .bf16) :
    Shape.Concatenates ((List.ofFn fun j : Fin 32 => (⟨S32x1024, f j⟩ : (s : Shape) × FVec F s .bf16)).map (·.1)) S1024x1024 0 :=
  concatenates_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S1024x1024_d0

/-- The sampling matrix: the thirty-two image rows, one under the other. -/
def accPay (tx ty : Fin 8 → FVec F S32x1024 .bf16) : FVec F S1024x1024 .bf16 :=
  concatenate S1024x1024 0 (List.ofFn fun j : Fin 32 => ⟨S32x1024, rowPay tx ty j⟩) (rowsConcat _)

/-- The head's values times the sampling matrix. -/
def mixPay (v : FVec F S64x1024 .f32) (tx ty : Fin 8 → FVec F S32x1024 .bf16) : FVec F S64x1024 .bf16 :=
  truncf .bf16 (matmul dot_S64x1024_S1024x1024_S64x1024_1_0_0_1_n_n none (truncf .bf16 v bitsLt_bf16_f32) (accPay tx ty)
    (constant S64x1024 .f32 0x00000000#32)) bitsLt_bf16_f32

/-- What one head's step leaves in the scratch: from the image's block `x0`, the two rows `r0`, `r1` of reference points,
    the head's weights `x2` and its bias `x3`. -/
def sampPay (x0 : Vec F S1x768x1024 .f32) (r0 r1 : Vec F S1x1x1024 .f32) (x2 : Vec F S1x88x768 .f32) (x3 : Vec F S1x88x1 .f32) :
    FVec F S64x1024 .bf16 :=
  mixPay (k0_pay4 x0 x2 x3) (txPay (k0_pay7 x0 x2 x3) (k0_pay5 x0 x2 x3 r0) k0_pay8) (tyPay (k0_pay6 x0 x2 x3 r1) k0_pay8)

/-- The scratch after one head's step at grid point `i`: as before, with the head's result put over its own rows of the
    image's slot. -/
def newScratch (i : grid0.Coords) (x0 : Vec F S1x768x1024 .f32) (x1 : Vec F S1x2x1024 .f32) (x2 : Vec F S1x88x768 .f32)
    (x3 : Vec F S1x88x1 .f32) (s : Vec F S2x768x1024 .bf16) : Vec F S2x768x1024 .bf16 :=
  VecWindow.put s (k0_off1 i) S1x64x1024.size (k0_pay1 (sampPay x0
    (VecWindow.window (s := S1x2x1024) x1 ![0, 0, 0] S1x1x1024.size inb_S1x2x1024_S1x1x1024_0_0_0)
    (VecWindow.window (s := S1x2x1024) x1 ![0, 1, 0] S1x1x1024.size inb_S1x2x1024_S1x1x1024_0_1_0) x2 x3))

/-- The output block that a projecting point `i` stores: the other image's slot of the scratch, multiplied by the output
    weights `x4`, plus the bias `x5`. -/
def newOut (i : grid0.Coords) (h : k0_cond2 i = 1#1) (s : Vec F S2x768x1024 .bf16) (x4 : Vec F S768x768 .bf16)
    (x5 : Vec F S768x1 .f32) : Vec F S1x768x1024 .f32 :=
  k0_pay2 (VecWindow.window (s := S2x768x1024) s (k0_off2 i) S1x768x1024.size (k0_off2_inb i h)) x4 x5

end Cert.KernelIdeal.Own

end
-- ==== Proof.KernelRead.lean ====
/-
  The kernel's vector computations read at an index, over the extended reals.
-/
module

public import proofs.«01_k».proof.Proof.Payload
public import proofs.«01_k».proof.Proof.Mix
public import Idealize.ShloMosaic.Lib.Pointwise

@[expose] public section

set_option maxRecDepth 16384

noncomputable section

namespace Cert.KernelIdeal.Own

open Idealize.ShloMosaic Idealize.ShloMosaic.TcCoe
open Cert.KernelIdeal Cert.KernelIdeal.Gen Cert.Own

/-- A row of the head's projections: the row's weights times the query, plus the row's bias. -/
theorem pay3_apply (x0 : Vec Ideal S1x768x1024 .f32) (x2 : Vec Ideal S1x88x768 .f32) (x3 : Vec Ideal S1x88x1 .f32) (r : Fin 88) (l : Fin 1024) :
    k0_pay3 x0 x2 x3 (ix2 r l) = (∑ e : Fin 768, (x2 (ix3 0 r e) : EReal) * x0 (ix3 0 e l)) + x3 (ix3 0 r 0) := by
  pointwise [k0_pay3]

/-- The values are the first sixty-four rows of the projections. -/
theorem pay4_apply (x0 : Vec Ideal S1x768x1024 .f32) (x2 : Vec Ideal S1x88x768 .f32) (x3 : Vec Ideal S1x88x1 .f32) (r : Fin 64) (l : Fin 1024) :
    k0_pay4 x0 x2 x3 (ix2 r l) = k0_pay3 x0 x2 x3 (ix2 ⟨r.val, by omega⟩ l) := by
  pointwise [k0_pay4]

/-- The points' horizontal positions: rows 64 to 71, moved by the reference point. -/
theorem pay5_apply (x0 : Vec Ideal S1x768x1024 .f32) (x2 : Vec Ideal S1x88x768 .f32) (x3 : Vec Ideal S1x88x1 .f32) (r0 : Vec Ideal S1x1x1024 .f32) (p : Fin 8) (l : Fin 1024) :
    k0_pay5 x0 x2 x3 r0 (ix2 p l) = (k0_pay3 x0 x2 x3 (ix2 ⟨64 + p.val, by omega⟩ l) : EReal) + r0 (ix3 0 0 l) := by
  pointwise [k0_pay5]

/-- The points' vertical positions: rows 72 to 79, moved by the reference point. -/
theorem pay6_apply (x0 : Vec Ideal S1x768x1024 .f32) (x2 : Vec Ideal S1x88x768 .f32) (x3 : Vec Ideal S1x88x1 .f32) (r1 : Vec Ideal S1x1x1024 .f32) (p : Fin 8) (l : Fin 1024) :
    k0_pay6 x0 x2 x3 r1 (ix2 p l) = (k0_pay3 x0 x2 x3 (ix2 ⟨72 + p.val, by omega⟩ l) : EReal) + r1 (ix3 0 0 l) := by
  pointwise [k0_pay6]

/-- The bit pattern a maximum starts from is minus infinity. -/
theorem ofBits_bot : Ideal.ofBits FTy.f32 4286578688#32 = ⊥ := by
  simp [Ideal.ofBits, Ideal.ieee]

/-- The points' weights: the softmax of rows 80 to 87. -/
theorem pay7_apply (x0 : Vec Ideal S1x768x1024 .f32) (x2 : Vec Ideal S1x88x768 .f32) (x3 : Vec Ideal S1x88x1 .f32) (p : Fin 8) (l : Fin 1024) :
    k0_pay7 x0 x2 x3 (ix2 p l) = softAt (peak fun p => k0_pay3 x0 x2 x3 (ix2 ⟨80 + p.val, by omega⟩ l))
      (fun p => k0_pay3 x0 x2 x3 (ix2 ⟨80 + p.val, by omega⟩ l)) p := by
  pointwise [k0_pay7, softAt, peak]
  rw [ofBits_bot]

/-- The column of numbers from zero to thirty-one. -/
theorem pay8_apply (g : Fin 32) : (k0_pay8 (F := Ideal) (ix2 g 0) : EReal) = ((g.val : ℝ) : EReal) := by
  pointwise [k0_pay8]
  have hg : (BitVec.ofNat 32 g.val).toInt = (g.val : ℤ) := by revert g; decide
  show (((BitVec.ofNat 32 g.val).toInt : ℝ) : EReal) = _
  rw [hg, Int.cast_natCast]

/-- A point's weighted horizontal tent, at a column. -/
theorem txPay_apply (a x : FVec Ideal S8x1024 .f32) (g : FVec Ideal S32x1 .f32) (p : Fin 8) (k : Fin 32) (l : Fin 1024) :
    (txPay a x g p (ix2 k l) : EReal) = lift (a (ix2 p l)) ((g (ix2 k 0) : EReal) - x (ix2 p l)) := by
  pointwise [txPay]
  rfl

/-- A point's vertical tent, at a row. -/
theorem tyPay_apply (y : FVec Ideal S8x1024 .f32) (g : FVec Ideal S32x1 .f32) (p : Fin 8) (k : Fin 32) (l : Fin 1024) :
    (tyPay y g p (ix2 k l) : EReal) = tent ((g (ix2 k 0) : EReal) - y (ix2 p l)) := by
  pointwise [tyPay]
  rfl

/-- A row of the sampling matrix adds the eight points' products. -/
theorem rowPay_apply (tx ty : Fin 8 → FVec Ideal S32x1024 .bf16) (j k : Fin 32) (l : Fin 1024) :
    (rowPay tx ty j (ix2 k l) : EReal) = ∑ p : Fin 8, (tx p (ix2 k l) : EReal) * ty p (ix2 j l) := by
  rw [Fin.sum_univ_eight]
  pointwise [rowPay, termPay]

/-- Row `q` of the sampling matrix is row `q % 32` of block `q / 32`. -/
theorem accPay_apply (tx ty : Fin 8 → FVec Ideal S32x1024 .bf16) (q : Fin 1024) (l : Fin 1024) :
    (accPay tx ty (ix2 q l) : EReal) = rowPay tx ty ⟨q.val / 32, by omega⟩ (ix2 ⟨q.val % 32, by omega⟩ l) := by
  unfold accPay
  refine concatenate_ofFn_apply (t := S1024x1024) 0 (fun j : Fin 32 => rowPay tx ty j) _ (rfl : S32x1024.rank = S1024x1024.rank) 32 (by decide)
    (ix2 q l) ⟨q.val / 32, by omega⟩ rfl (ix2 ⟨q.val % 32, by omega⟩ l) rfl ?_
  intro b hb
  match b with
  | ⟨0, _⟩ => exact absurd rfl hb
  | ⟨1, _⟩ => rfl

/-- The values times the sampling matrix. -/
theorem mixPay_apply (v : FVec Ideal S64x1024 .f32) (tx ty : Fin 8 → FVec Ideal S32x1024 .bf16) (i : Fin 64) (l : Fin 1024) :
    (mixPay v tx ty (ix2 i l) : EReal) = ∑ k : Fin 1024, (v (ix2 i k) : EReal) * accPay tx ty (ix2 k l) := by
  pointwise [mixPay]

/-- The output projection: the weights times the sampled values, plus the bias. -/
theorem pay2_apply (s : Vec Ideal S1x768x1024 .bf16) (x4 : Vec Ideal S768x768 .bf16) (x5 : Vec Ideal S768x1 .f32) (o : Fin 768) (l : Fin 1024) :
    (k0_pay2 s x4 x5 (ix3 0 o l) : EReal) = (∑ r : Fin 768, (x4 (ix2 o r) : EReal) * s (ix3 0 r l)) + x5 (ix2 o 0) := by
  pointwise [k0_pay2]

/-- What is stored in the scratch is the head's result under a leading axis of size one. -/
theorem pay1_apply (s : FVec Ideal S64x1024 .bf16) (i : Fin 64) (l : Fin 1024) :
    k0_pay1 s (ix3 0 i l) = s (ix2 i l) := by
  pointwise [k0_pay1]

/-- One head's result at a channel and a position: the values woven with the points' weights and positions. -/
theorem sampPay_apply (x0 : Vec Ideal S1x768x1024 .f32) (r0 r1 : Vec Ideal S1x1x1024 .f32) (x2 : Vec Ideal S1x88x768 .f32)
    (x3 : Vec Ideal S1x88x1 .f32) (i : Fin 64) (l : Fin 1024) :
    (sampPay x0 r0 r1 x2 x3 (ix2 i l) : EReal) = weave (fun k => k0_pay3 x0 x2 x3 (ix2 ⟨i.val, by omega⟩ k))
      (fun p => softAt (peak fun p => k0_pay3 x0 x2 x3 (ix2 ⟨80 + p.val, by omega⟩ l))
        (fun p => k0_pay3 x0 x2 x3 (ix2 ⟨80 + p.val, by omega⟩ l)) p)
      (fun p => (k0_pay3 x0 x2 x3 (ix2 ⟨64 + p.val, by omega⟩ l) : EReal) + r0 (ix3 0 0 l))
      (fun p => (k0_pay3 x0 x2 x3 (ix2 ⟨72 + p.val, by omega⟩ l) : EReal) + r1 (ix3 0 0 l)) := by
  unfold sampPay weave
  rw [mixPay_apply]
  refine Finset.sum_congr rfl fun k _ => ?_
  rw [pay4_apply, accPay_apply, rowPay_apply]
  refine congrArg _ (Finset.sum_congr rfl fun p _ => ?_)
  rw [txPay_apply, tyPay_apply, pay7_apply, pay5_apply, pay6_apply, pay8_apply, pay8_apply]

end Cert.KernelIdeal.Own

end
-- ==== Proof.Scratch.lean ====
/-
  What the scratch buffer holds as the grid advances: every head's result of the image being sampled and of the image
  before it, each until the second image after it begins to overwrite its slot.
-/
module

public import proofs.«01_k».proof.Proof.Payload
public import proofs.«01_k».proof.Proof.Gen.KernelIdeal.Frame
public import Idealize.ShloMosaic.Lib.Pointwise.Index
public import Idealize.ShloMosaic.Lib.VecWindow

@[expose] public section

set_option maxRecDepth 16384

noncomputable section

namespace Cert.KernelIdeal.Own

open Idealize.ShloMosaic Idealize.ShloMosaic.TcCoe
open Cert.KernelIdeal Cert.KernelIdeal.Gen

variable {F : FTy → Type} [FloatOps F]

/-- The grid has sixty points. -/
theorem pts : cfg0.N = 60 := N_0

/-- A point samples exactly when it belongs to one of the four images. -/
theorem samples_iff : ∀ t : Fin cfg0.N, k0_cond1 (grid0.coords t) = 1#1 ↔ t.val < 48 :=
  (by decide +kernel : ∀ t : Fin grid0.N, k0_cond1 (grid0.coords t) = 1#1 ↔ t.val < 48)

/-- A point projects exactly when it is the first head's point and an image came before. -/
theorem projects_iff : ∀ t : Fin cfg0.N, k0_cond2 (grid0.coords t) = 1#1 ↔ t.val % 12 = 0 ∧ 12 ≤ t.val :=
  (by decide +kernel : ∀ t : Fin grid0.N, k0_cond2 (grid0.coords t) = 1#1 ↔ t.val % 12 = 0 ∧ 12 ≤ t.val)

/-- Where a sampling point stores its result: the slot is the image's parity, the rows are the head's sixty-four. -/
theorem off1_eq : ∀ t : Fin cfg0.N, k0_off1 (grid0.coords t) 0 = t.val / 12 % 2 ∧ k0_off1 (grid0.coords t) 1 = 64 * (t.val % 12)
    ∧ k0_off1 (grid0.coords t) 2 = 0 :=
  (by decide +kernel : ∀ t : Fin grid0.N, k0_off1 (grid0.coords t) 0 = t.val / 12 % 2 ∧ k0_off1 (grid0.coords t) 1 = 64 * (t.val % 12)
    ∧ k0_off1 (grid0.coords t) 2 = 0)

/-- Where a projecting point reads: the slot of the other parity, from its first row. -/
theorem off2_eq : ∀ t : Fin cfg0.N, k0_off2 (grid0.coords t) 0 = (t.val / 12 + 1) % 2 ∧ k0_off2 (grid0.coords t) 1 = 0
    ∧ k0_off2 (grid0.coords t) 2 = 0 :=
  (by decide +kernel : ∀ t : Fin grid0.N, k0_off2 (grid0.coords t) 0 = (t.val / 12 + 1) % 2 ∧ k0_off2 (grid0.coords t) 1 = 0
    ∧ k0_off2 (grid0.coords t) 2 = 0)

/-- A sampling point's rows lie inside the scratch. -/
theorem off1_inb (t : Fin cfg0.N) (h : t.val < 48) (a) : k0_off1 (grid0.coords t) a + S1x64x1024.size a ≤ S2x768x1024.size a :=
  k0_off1_inb _ ((samples_iff t).mpr h) a

/-- What the scratch `s` holds before point `T`, if sampling point `k` stores `S k`: each result stored so far whose slot
    the second image after it has not begun to overwrite. -/
def Holds (S : Fin cfg0.N → Vec F S1x64x1024 .bf16) (T : ℕ) (s : Vec F S2x768x1024 .bf16) : Prop :=
  ∀ (k : Fin cfg0.N) (h : k.val < 48), k.val < T → T ≤ 12 * (k.val / 12 + 2) →
    VecWindow.window (s := S2x768x1024) s (k0_off1 (grid0.coords k)) S1x64x1024.size (off1_inb k h) = S k

/-- Before the first point nothing is asked. -/
theorem Holds.zero (S : Fin cfg0.N → Vec F S1x64x1024 .bf16) (s) : Holds S 0 s := fun _ _ h => absurd h (Nat.not_lt_zero _)

/-- A point that stores nothing keeps what is held. -/
theorem Holds.keep {S : Fin cfg0.N → Vec F S1x64x1024 .bf16} {s} {T : ℕ} (hT : 48 ≤ T) (h : Holds S T s) : Holds S (T + 1) s :=
  fun k hk _ h2 => h k hk (by omega) (by omega)

/-- A sampling point adds its own result and disturbs none of the others. -/
theorem Holds.store {S : Fin cfg0.N → Vec F S1x64x1024 .bf16} {s} {t : Fin cfg0.N} (ht : t.val < 48) (h : Holds S t.val s) :
    Holds S (t.val + 1) (VecWindow.put (s := S2x768x1024) s (k0_off1 (grid0.coords t)) S1x64x1024.size (S t)) := by
  intro k hk h1 h2
  by_cases e : k = t
  · subst e; exact VecWindow.window_put_same _ _ _ _ _
  · have hlt : k.val < t.val := by have : k.val ≠ t.val := fun q => e (Fin.ext q); omega
    obtain ⟨a0, a1, -⟩ := off1_eq k
    obtain ⟨b0, b1, -⟩ := off1_eq t
    rw [← h k hk hlt (by omega)]
    by_cases p : k.val / 12 = t.val / 12
    · refine VecWindow.window_put_of_disjoint _ _ _ _ _ _ _ 1 ?_
      rw [a1, b1]
      show 64 * _ + 64 ≤ 64 * _ ∨ 64 * _ + 64 ≤ 64 * _
      omega
    · refine VecWindow.window_put_of_disjoint _ _ _ _ _ _ _ 0 ?_
      rw [a0, b0]
      show _ + 1 ≤ _ ∨ _ + 1 ≤ _
      omega

/-- The point that samples head `r / 64` of image `n`. -/
def ptOf (n : Fin 4) (h : Fin 12) : Fin cfg0.N := ⟨12 * n.val + h.val, by have := pts; omega⟩

/-- An image's slot, full: row `r` is row `r % 64` of head `r / 64`'s result. -/
def slotOf (S : Fin cfg0.N → Vec F S1x64x1024 .bf16) (n : Fin 4) : Vec F S1x768x1024 .bf16 := fun y =>
  S (ptOf n ⟨(y 1).val / 64, by have : (y 1).val < 768 := (y 1).isLt; omega⟩)
    (ix3 (0 : Fin 1) (⟨(y 1).val % 64, Nat.mod_lt _ (by decide)⟩ : Fin 64) (y 2 : Fin 1024))

/-- A projecting point reads the image before it, complete. -/
theorem Holds.window {S : Fin cfg0.N → Vec F S1x64x1024 .bf16} {s} {t : Fin cfg0.N} (hc : k0_cond2 (grid0.coords t) = 1#1)
    (h : Holds S (t.val + 1) s) (n : Fin 4) (hn : n.val + 1 = t.val / 12) :
    VecWindow.window (s := S2x768x1024) s (k0_off2 (grid0.coords t)) S1x768x1024.size (k0_off2_inb _ hc) = slotOf S n := by
  obtain ⟨h0, h12⟩ := (projects_iff t).mp hc
  funext y
  have y1 : (y 1).val < 768 := (y 1).isLt
  have y0 : (y 0).val < 1 := (y 0).isLt
  have hk : (ptOf n ⟨(y 1).val / 64, by omega⟩).val = 12 * n.val + (y 1).val / 64 := rfl
  have key := h (ptOf n ⟨(y 1).val / 64, by omega⟩) (by omega) (by omega) (by omega)
  unfold slotOf
  rw [← key]
  unfold VecWindow.window
  obtain ⟨a0, a1, a2⟩ := off1_eq (ptOf n ⟨(y 1).val / 64, by omega⟩)
  obtain ⟨b0, b1, b2⟩ := off2_eq t
  refine congrArg s (funext fun a => Fin.ext ?_)
  show k0_off2 (grid0.coords t) a + 1 * (y a).val = k0_off1 (grid0.coords (ptOf n ⟨(y 1).val / 64, _⟩)) a + 1 * _
  match a with
  | ⟨0, _⟩ =>
    show k0_off2 (grid0.coords t) 0 + 1 * (y 0).val = k0_off1 (grid0.coords (ptOf n ⟨(y 1).val / 64, _⟩)) 0 + 1 * 0
    rw [a0, b0, hk]; omega
  | ⟨1, _⟩ =>
    show k0_off2 (grid0.coords t) 1 + 1 * (y 1).val = k0_off1 (grid0.coords (ptOf n ⟨(y 1).val / 64, _⟩)) 1 + 1 * ((y 1).val % 64)
    rw [a1, b1, hk]; omega
  | ⟨2, _⟩ =>
    show k0_off2 (grid0.coords t) 2 + 1 * (y 2).val = k0_off1 (grid0.coords (ptOf n ⟨(y 1).val / 64, _⟩)) 2 + 1 * (y 2).val
    rw [a2, b2]

end Cert.KernelIdeal.Own

end
-- ==== Proof.RunA.lean ====
/-
  The body's run at a grid point that computes one head's samples and projects nothing.
-/
module

public import proofs.«01_k».proof.Proof.Payload
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.VecWindow

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The eight buffers the body is given, owned whole: the six inputs at `x0` … `x5`, the output's at `x6`, the scratch
    at `s`. -/
def held (c : Dev nD) (arg2 : Memref sig .tc .vmem S1x768x1024 .f32) (arg3 : Memref sig .tc .vmem S1x2x1024 .f32)
    (arg4 : Memref sig .tc .vmem S1x88x768 .f32) (arg5 : Memref sig .tc .vmem S1x88x1 .f32)
    (arg6 : Memref sig .tc .vmem S768x768 .bf16) (arg7 : Memref sig .tc .vmem S768x1 .f32)
    (arg8 : Memref sig .tc .vmem S1x768x1024 .f32) (arg9 : Memref sig .tc .vmem S2x768x1024 .bf16)
    (x0 : Vec F S1x768x1024 .f32) (x1 : Vec F S1x2x1024 .f32) (x2 : Vec F S1x88x768 .f32) (x3 : Vec F S1x88x1 .f32) (x4 : Vec F S768x768 .bf16) (x5 : Vec F S768x1 .f32)
    (x6 : Vec F S1x768x1024 .f32) (s : Vec F S2x768x1024 .bf16) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5
    ∗ owns (c : Thread nD τ) arg8 fullShare x6 ∗ owns (c : Thread nD τ) arg9 fullShare s)

set_option maxHeartbeats 1000000 in
/-- A point that computes a head and does not project: the scratch gets the head's rows, the output buffer is left as it was. -/
theorem run_A (c : Dev nD) (i : grid0.Coords) (arg2 : Memref sig .tc .vmem S1x768x1024 .f32) (harg2 : arg2.IsWhole) (arg3 : Memref sig .tc .vmem S1x2x1024 .f32) (harg3 : arg3.IsWhole)
    (arg4 : Memref sig .tc .vmem S1x88x768 .f32) (harg4 : arg4.IsWhole) (arg5 : Memref sig .tc .vmem S1x88x1 .f32) (harg5 : arg5.IsWhole)
    (arg6 : Memref sig .tc .vmem S768x768 .bf16) (harg6 : arg6.IsWhole) (arg7 : Memref sig .tc .vmem S768x1 .f32) (harg7 : arg7.IsWhole)
    (arg8 : Memref sig .tc .vmem S1x768x1024 .f32) (harg8 : arg8.IsWhole) (arg9 : Memref sig .tc .vmem S2x768x1024 .bf16) (harg9 : arg9.IsWhole)
    (hc0 : k0_cond1 i = 1#1) (hc1 : ¬ k0_cond2 i = 1#1)
    (x0 : Vec F S1x768x1024 .f32) (x1 : Vec F S1x2x1024 .f32) (x2 : Vec F S1x88x768 .f32) (x3 : Vec F S1x88x1 .f32) (x4 : Vec F S768x768 .bf16) (x5 : Vec F S768x1 .f32)
    (x6 : Vec F S1x768x1024 .f32) (s : Vec F S2x768x1024 .bf16) (E : Set ℕ) (K : PUnit → sProp 𝕄) :
    iprop(held c arg2 arg3 arg4 arg5 arg6 arg7 arg8 arg9 x0 x1 x2 x3 x4 x5 x6 s
        ∗ (held c arg2 arg3 arg4 arg5 arg6 arg7 arg8 arg9 x0 x1 x2 x3 x4 x5 x6 (newScratch i x0 x1 x2 x3 s) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, HS0⟩⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    exact harg8.read_unread _
  iexists _; isplitr; swap; · iexact HS0
  ipureintro
  rw [View.read_writes_cons_put _ _ _ _ _ rfl, View.writes_nil, harg9.read_unread,
    show run_A.sl.r_108 c arg2 harg2 arg3 harg3 arg4 harg4 arg5 harg5 x0 x1 x2 x3 = sampPay
      (View.readAt (Elt F) arg2.view (Rect.unit ![0, 0, 0] S1x768x1024.size inb_S1x768x1024_S1x768x1024_0_0_0).toLoadRect (harg2.unread x0))
      (View.readAt (Elt F) arg3.view (Rect.unit (s := S1x2x1024) ![0, 0, 0] S1x1x1024.size inb_S1x2x1024_S1x1x1024_0_0_0).toLoadRect (harg3.unread x1))
      (View.readAt (Elt F) arg3.view (Rect.unit (s := S1x2x1024) ![0, 1, 0] S1x1x1024.size inb_S1x2x1024_S1x1x1024_0_1_0).toLoadRect (harg3.unread x1))
      (View.readAt (Elt F) arg4.view (Rect.unit ![0, 0, 0] S1x88x768.size inb_S1x88x768_S1x88x768_0_0_0).toLoadRect (harg4.unread x2))
      (View.readAt (Elt F) arg5.view (Rect.unit ![0, 0, 0] S1x88x1.size inb_S1x88x1_S1x88x1_0_0_0).toLoadRect (harg5.unread x3)) from rfl,
    View.readAt_full, View.readAt_full, View.readAt_full, View.readAt_unit _ _ _ rfl inb_S1x2x1024_S1x1x1024_0_0_0,
    View.readAt_unit _ _ _ rfl inb_S1x2x1024_S1x1x1024_0_1_0, harg2.read_unread, harg3.read_unread, harg4.read_unread, harg5.read_unread]
  rfl

end Cert.KernelIdeal.Own

end
-- ==== Proof.RunB.lean ====
/-
  The body's run at a grid point that computes one head's samples and projects the image before.
-/
module

public import proofs.«01_k».proof.Proof.RunA
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.VecWindow

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- A point that computes a head and then projects the image before: the scratch gets the head's rows, and the output buffer
    the other slot's projection. -/
theorem run_B (c : Dev nD) (i : grid0.Coords) (arg2 : Memref sig .tc .vmem S1x768x1024 .f32) (harg2 : arg2.IsWhole) (arg3 : Memref sig .tc .vmem S1x2x1024 .f32) (harg3 : arg3.IsWhole)
    (arg4 : Memref sig .tc .vmem S1x88x768 .f32) (harg4 : arg4.IsWhole) (arg5 : Memref sig .tc .vmem S1x88x1 .f32) (harg5 : arg5.IsWhole)
    (arg6 : Memref sig .tc .vmem S768x768 .bf16) (harg6 : arg6.IsWhole) (arg7 : Memref sig .tc .vmem S768x1 .f32) (harg7 : arg7.IsWhole)
    (arg8 : Memref sig .tc .vmem S1x768x1024 .f32) (harg8 : arg8.IsWhole) (arg9 : Memref sig .tc .vmem S2x768x1024 .bf16) (harg9 : arg9.IsWhole)
    (hc0 : k0_cond1 i = 1#1) (hc1 : k0_cond2 i = 1#1)
    (x0 : Vec F S1x768x1024 .f32) (x1 : Vec F S1x2x1024 .f32) (x2 : Vec F S1x88x768 .f32) (x3 : Vec F S1x88x1 .f32) (x4 : Vec F S768x768 .bf16) (x5 : Vec F S768x1 .f32)
    (x6 : Vec F S1x768x1024 .f32) (s : Vec F S2x768x1024 .bf16) (E : Set ℕ) (K : PUnit → sProp 𝕄) :
    iprop(held c arg2 arg3 arg4 arg5 arg6 arg7 arg8 arg9 x0 x1 x2 x3 x4 x5 x6 s
        ∗ (held c arg2 arg3 arg4 arg5 arg6 arg7 arg8 arg9 x0 x1 x2 x3 x4 x5 (newOut i hc1 (newScratch i x0 x1 x2 x3 s) x4 x5) (newScratch i x0 x1 x2 x3 s) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, HS0⟩⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  sl_exec (disch := first | sl_exact hc0 | sl_exact hc1)
  sl_step
  have hs : View.read (Elt F) arg9.view (arg9.view.writes (Elt F) (harg9.unread s) (run_B.sl.HS0_1 c i arg2 harg2 arg3 harg3 arg4 harg4 arg5 harg5 hc0 x0 x1 x2 x3))
      = newScratch i x0 x1 x2 x3 s := by
    unfold run_B.sl.HS0_1
    rw [View.read_writes_cons_put _ _ _ _ _ rfl, View.writes_nil, harg9.read_unread,
      show run_B.sl.r_108 c arg2 harg2 arg3 harg3 arg4 harg4 arg5 harg5 x0 x1 x2 x3 = sampPay
        (View.readAt (Elt F) arg2.view (Rect.unit ![0, 0, 0] S1x768x1024.size inb_S1x768x1024_S1x768x1024_0_0_0).toLoadRect (harg2.unread x0))
        (View.readAt (Elt F) arg3.view (Rect.unit (s := S1x2x1024) ![0, 0, 0] S1x1x1024.size inb_S1x2x1024_S1x1x1024_0_0_0).toLoadRect (harg3.unread x1))
        (View.readAt (Elt F) arg3.view (Rect.unit (s := S1x2x1024) ![0, 1, 0] S1x1x1024.size inb_S1x2x1024_S1x1x1024_0_1_0).toLoadRect (harg3.unread x1))
        (View.readAt (Elt F) arg4.view (Rect.unit ![0, 0, 0] S1x88x768.size inb_S1x88x768_S1x88x768_0_0_0).toLoadRect (harg4.unread x2))
        (View.readAt (Elt F) arg5.view (Rect.unit ![0, 0, 0] S1x88x1.size inb_S1x88x1_S1x88x1_0_0_0).toLoadRect (harg5.unread x3)) from rfl,
      View.readAt_full, View.readAt_full, View.readAt_full, View.readAt_unit _ _ _ rfl inb_S1x2x1024_S1x1x1024_0_0_0,
      View.readAt_unit _ _ _ rfl inb_S1x2x1024_S1x1x1024_0_1_0, harg2.read_unread, harg3.read_unread, harg4.read_unread, harg5.read_unread]
    rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [View.read_writes_full]
    unfold run_B.sl.v11
    rw [View.readAt_full, View.readAt_full, harg6.read_unread, harg7.read_unread, View.readAt_unit _ _ _ rfl (k0_off2_inb i hc1), hs]
    rfl
  iexists _; isplitr; swap; · iexact HS0
  ipureintro
  exact hs

end Cert.KernelIdeal.Own

end
-- ==== Proof.RunC.lean ====
/-
  The body's runs at the grid points that compute no samples.
-/
module

public import proofs.«01_k».proof.Proof.RunA
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.VecWindow

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- A point that only projects: the output buffer gets the other slot's projection, the scratch is left as it was. -/
theorem run_C (c : Dev nD) (i : grid0.Coords) (arg2 : Memref sig .tc .vmem S1x768x1024 .f32) (harg2 : arg2.IsWhole) (arg3 : Memref sig .tc .vmem S1x2x1024 .f32) (harg3 : arg3.IsWhole)
    (arg4 : Memref sig .tc .vmem S1x88x768 .f32) (harg4 : arg4.IsWhole) (arg5 : Memref sig .tc .vmem S1x88x1 .f32) (harg5 : arg5.IsWhole)
    (arg6 : Memref sig .tc .vmem S768x768 .bf16) (harg6 : arg6.IsWhole) (arg7 : Memref sig .tc .vmem S768x1 .f32) (harg7 : arg7.IsWhole)
    (arg8 : Memref sig .tc .vmem S1x768x1024 .f32) (harg8 : arg8.IsWhole) (arg9 : Memref sig .tc .vmem S2x768x1024 .bf16) (harg9 : arg9.IsWhole)
    (hc0 : ¬ k0_cond1 i = 1#1) (hc1 : k0_cond2 i = 1#1)
    (x0 : Vec F S1x768x1024 .f32) (x1 : Vec F S1x2x1024 .f32) (x2 : Vec F S1x88x768 .f32) (x3 : Vec F S1x88x1 .f32) (x4 : Vec F S768x768 .bf16) (x5 : Vec F S768x1 .f32)
    (x6 : Vec F S1x768x1024 .f32) (s : Vec F S2x768x1024 .bf16) (E : Set ℕ) (K : PUnit → sProp 𝕄) :
    iprop(held c arg2 arg3 arg4 arg5 arg6 arg7 arg8 arg9 x0 x1 x2 x3 x4 x5 x6 s
        ∗ (held c arg2 arg3 arg4 arg5 arg6 arg7 arg8 arg9 x0 x1 x2 x3 x4 x5 (newOut i hc1 s x4 x5) s -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, HS0⟩⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [View.read_writes_full, View.readAt_full, View.readAt_full, harg6.read_unread, harg7.read_unread,
      View.readAt_unit _ _ _ rfl (k0_off2_inb i hc1), harg9.read_unread]
    rfl
  iexists _; isplitr; swap; · iexact HS0
  ipureintro
  exact harg9.read_unread _

set_option maxHeartbeats 1000000 in
/-- A point that does nothing. -/
theorem run_D (c : Dev nD) (i : grid0.Coords) (arg2 : Memref sig .tc .vmem S1x768x1024 .f32) (harg2 : arg2.IsWhole) (arg3 : Memref sig .tc .vmem S1x2x1024 .f32) (harg3 : arg3.IsWhole)
    (arg4 : Memref sig .tc .vmem S1x88x768 .f32) (harg4 : arg4.IsWhole) (arg5 : Memref sig .tc .vmem S1x88x1 .f32) (harg5 : arg5.IsWhole)
    (arg6 : Memref sig .tc .vmem S768x768 .bf16) (harg6 : arg6.IsWhole) (arg7 : Memref sig .tc .vmem S768x1 .f32) (harg7 : arg7.IsWhole)
    (arg8 : Memref sig .tc .vmem S1x768x1024 .f32) (harg8 : arg8.IsWhole) (arg9 : Memref sig .tc .vmem S2x768x1024 .bf16) (harg9 : arg9.IsWhole)
    (hc0 : ¬ k0_cond1 i = 1#1) (hc1 : ¬ k0_cond2 i = 1#1)
    (x0 : Vec F S1x768x1024 .f32) (x1 : Vec F S1x2x1024 .f32) (x2 : Vec F S1x88x768 .f32) (x3 : Vec F S1x88x1 .f32) (x4 : Vec F S768x768 .bf16) (x5 : Vec F S768x1 .f32)
    (x6 : Vec F S1x768x1024 .f32) (s : Vec F S2x768x1024 .bf16) (E : Set ℕ) (K : PUnit → sProp 𝕄) :
    iprop(held c arg2 arg3 arg4 arg5 arg6 arg7 arg8 arg9 x0 x1 x2 x3 x4 x5 x6 s
        ∗ (held c arg2 arg3 arg4 arg5 arg6 arg7 arg8 arg9 x0 x1 x2 x3 x4 x5 x6 s -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, HS0⟩⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    exact harg8.read_unread _
  iexists _; isplitr; swap; · iexact HS0
  ipureintro
  exact harg9.read_unread _

end Cert.KernelIdeal.Own

end
-- ==== Proof.Launch.lean ====
/-
  The launch of the kernel's one pipelined call, with the contents of its output named point by point.
-/
module

public import proofs.«01_k».proof.Proof.Scratch
public import proofs.«01_k».proof.Proof.RunA
public import proofs.«01_k».proof.Proof.RunB
public import proofs.«01_k».proof.Proof.RunC
public import proofs.«01_k».proof.Proof.Gen.KernelIdeal.Frame
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.VecWindow

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points compute -/

/-- What point `t` stores in the scratch if it samples: its head's result, from its input blocks. -/
def stored (c : Dev nD) (t : Fin cfg0.N) : Vec F S1x64x1024 .bf16 :=
  k0_pay1 (sampPay (iblk m c 0 t)
    (VecWindow.window (s := S1x2x1024) (iblk m c 1 t) ![0, 0, 0] S1x1x1024.size inb_S1x2x1024_S1x1x1024_0_0_0)
    (VecWindow.window (s := S1x2x1024) (iblk m c 1 t) ![0, 1, 0] S1x1x1024.size inb_S1x2x1024_S1x1x1024_0_1_0)
    (iblk m c 2 t) (iblk m c 3 t))

/-- The image whose projection the output's buffer holds at point `t`, from the second image's first point on. -/
def imgOf (t : ℕ) : Fin 4 := ⟨(t / 12 - 1) % 4, Nat.mod_lt _ (by decide)⟩

/-- The output block of that image. -/
def projected (c : Dev nD) (t : Fin cfg0.N) : Vec F S1x768x1024 .f32 :=
  k0_pay2 (slotOf (stored m c) (imgOf t.val)) (iblk m c 4 t) (iblk m c 5 t)

/-- The scratch buffer. -/
abbrev scr : Memref sig .tc .vmem S2x768x1024 .bf16 := Memref.whole cc0_scratch0

/-- The data of the launch on core `c`: the arrays as the call finds them; each input's buffer at its block; the output's
    buffer at the projected image; between points, the scratch holds what was stored (`Holds`). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => projected m c t
  Φ t := iprop(∃ s, ⌜Holds (stored m c) t.val s⌝ ∗ owns (c : Thread nD τ) scr fullShare s ∗ (∃ r, prngReg c r))
  q _ := fullShare
  owed _ := 0

/-- The data's arrays are the contents at the call. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = projected m c t := by dsimp only [dats]

/-- Each input's buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The output's buffer between its points -/

/-- The output is never fetched. -/
theorem fetch6 : ∀ t : Fin cfg0.N, (cfg0.win 6).fetch t = false :=
  (by decide +kernel : ∀ t : Fin grid0.N, win0_6.fetch t = false)

/-- The output is written back at the last head's point of every image but the first. -/
theorem flush6 : ∀ t : Fin cfg0.N, (cfg0.win 6).flush t = true ↔ t.val % 12 = 11 ∧ 12 ≤ t.val :=
  (by decide +kernel : ∀ t : Fin grid0.N, win0_6.flush t = true ↔ t.val % 12 = 11 ∧ 12 ≤ t.val)

/-- The body leaves the output alone where it does not project. -/
theorem idle6 (t : Fin cfg0.N) (h : ¬ k0_cond2 (grid0.coords t) = 1#1) : cfg0.idle 6 (cfg0.grid.coords t) = true := by
  show (!(k0_cond2 (grid0.coords t) == 1#1)) = true
  simp [h]

theorem live6 (t : Fin cfg0.N) (h : k0_cond2 (grid0.coords t) = 1#1) : cfg0.idle 6 (cfg0.grid.coords t) = false := by
  show (!(k0_cond2 (grid0.coords t) == 1#1)) = false
  simp [h]

/-- The output weights' and bias's blocks are the whole arrays, the same at every point. -/
theorem iblk4_eq (c : Dev nD) (t t' : Fin cfg0.N) : iblk m c 4 t = iblk m c 4 t' := rfl
theorem iblk5_eq (c : Dev nD) (t t' : Fin cfg0.N) : iblk m c 5 t = iblk m c 5 t' := rfl

/-- Points of one image share the projected image. -/
theorem projected_congr (c : Dev nD) (t t' : Fin cfg0.N) (h : t.val / 12 = t'.val / 12) : projected m c t = projected m c t' := by
  have hi : imgOf t.val = imgOf t'.val := Fin.ext (by unfold imgOf; simp only [h])
  unfold projected
  rw [hi, iblk4_eq m c t t', iblk5_eq m c t t']

/-- After an image's first point its other points find the image before it projected. -/
theorem before6 (c : Dev nD) (d) : ∀ (j : ℕ) (t : Fin cfg0.N), t.val % 12 = j + 1 → 12 ≤ t.val →
    (dats m 0 c).before 6 t d = projected m c t
  | j, t, hj, h12 => by
    have hp : t.val - 1 < cfg0.N := lt_of_le_of_lt (Nat.sub_le _ _) t.isLt
    rw [Dat.before_of_pos _ 6 t (by omega) (fetch6 t), if_neg (by
      intro hf
      have := (flush6 ⟨t.val - 1, hp⟩).mp hf
      simp only at this
      omega)]
    unfold Dat.left
    rw [projected_congr m c t ⟨t.val - 1, hp⟩ (by simp only; omega)]
    match j, hj with
    | 0, hj =>
      rw [live6 ⟨t.val - 1, hp⟩ ((projects_iff _).mpr (by simp only; omega))]
      dsimp only
      unfold Dat.kept
      rw [after6]; rfl
    | j + 1, hj =>
      rw [idle6 ⟨t.val - 1, hp⟩ (fun h => by have := (projects_iff _).mp h; simp only at this; omega)]
      exact before6 c d j ⟨t.val - 1, hp⟩ (by simp only; omega) (by simp only; omega)

/-! ## The body at a point -/

abbrev ms0 (t : Fin cfg0.N) : Memref sig .tc .vmem S1x768x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x88x768 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x88x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S768x768 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S768x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x768x1024 .f32 := win0_6.stage (cfg0.slots t 6)
abbrev hs6 (t : Fin cfg0.N) : (ms6 t).IsWhole := hstage0_6 ((cfg0.slots t 6).cast nbuf0_6)

/-- The buffers at point `t`, the inputs at their blocks, the output at `x6`, the scratch at `s`. -/
abbrev heldAt (c : Dev nD) (t : Fin cfg0.N) (x6 : Vec F S1x768x1024 .f32) (s : Vec F S2x768x1024 .bf16) : sProp 𝕄 :=
  held c (ms0 t) (ms1 t) (ms2 t) (ms3 t) (ms4 t) (ms5 t) (ms6 t) scr (iblk m c 0 t) (iblk m c 1 t) (iblk m c 2 t) (iblk m c 3 t)
    (iblk m c 4 t) (iblk m c 5 t) x6 s

/-- The body run at point `t` takes the output's buffer from `x6` to `x6'` and the scratch from `s` to `s'`. -/
def Runs (c : Dev nD) (t : Fin cfg0.N) (x6 : Vec F S1x768x1024 .f32) (s : Vec F S2x768x1024 .bf16) (x6' : Vec F S1x768x1024 .f32)
    (s' : Vec F S2x768x1024 .bf16) : Prop :=
  ∀ K : PUnit → sProp 𝕄, iprop(heldAt m c t x6 s ∗ (heldAt m c t x6' s' -∗ K ⟨⟩))
    ⊢ wp frame (wpE (defs₀ (F := F)) Variants.none c none) Set.univ (bodyAt0 t) K

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- An input's buffer is left at its block. -/
theorem leaves0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after3]
theorem leaves4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, after4]
theorem leaves5 (c : Dev nD) (t : Fin cfg0.N) : (dats m 0 c).leavesExact 5 t = owns (c : Thread nD τ) (ms5 t) fullShare (iblk m c 5 t) := by
  unfold Dat.leavesExact; rw [show cfg0.idle 5 (cfg0.grid.coords t) = false from rfl, after5]

set_option maxHeartbeats 1600000 in
/-- The body's triple at point `t` from a run that keeps the scratch in order and leaves the output as asked. -/
theorem body_of_run (c : Dev nD) (t : Fin cfg0.N)
    (hrun : ∀ d6 s, Holds (stored m c) t.val s → ∃ x6' s', Holds (stored m c) (t.val + 1) s'
      ∧ (owns (c : Thread nD τ) (ms6 t) fullShare x6' ⊢ ((dats m 0 c).leavesExact 6 t : sProp 𝕄))
      ∧ Runs m c t ((dats m 0 c).before 6 t d6) s x6' s') :
    bodyPre m c t ⊢ wp frame (wpE (defs₀ (F := F)) Variants.none c none) Set.univ (bodyAt0 t) (fun _ => bodyPost m c t) := by
  unfold bodyPre bodyPost
  simp only [before0, before1, before2, before3, before4, before5, leaves0, leaves1, leaves2, leaves3, leaves4, leaves5]
  rw [show (dats m 0 c).owesAt () t.succ = (dats m 0 c).owesAt () t.castSucc from rfl,
    show (dats m 0 c).Φ t.castSucc = iprop(∃ s, ⌜Holds (stored m c) t.val s⌝ ∗ owns (c : Thread nD τ) scr fullShare s ∗ (∃ r, prngReg c r)) from rfl,
    show (dats m 0 c).Φ t.succ = iprop(∃ s, ⌜Holds (stored m c) (t.val + 1) s⌝ ∗ owns (c : Thread nD τ) scr fullShare s ∗ (∃ r, prngReg c r)) from rfl]
  iintro ⟨⟨%s, %hs, HS, Hg⟩, Ho, ⟨%d0, H0⟩, ⟨%d1, H1⟩, ⟨%d2, H2⟩, ⟨%d3, H3⟩, ⟨%d4, H4⟩, ⟨%d5, H5⟩, ⟨%d6, H6⟩⟩
  obtain ⟨x6', s', hs', hl, hr⟩ := hrun d6 s hs
  iapply (hr _)
  unfold heldAt held
  isplitl [H0 H1 H2 H3 H4 H5 H6 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  iintro ⟨H0, H1, H2, H3, H4, H5, H6, HS⟩
  isplitl [HS Hg]
  · iexists s'
    isplitr; · ipureintro; exact hs'
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply hl
  iexact H6

/-- Where the body does not project, the output's buffer as found is what is asked of it. -/
theorem leaves6_idle (c : Dev nD) (t : Fin cfg0.N) (h : ¬ k0_cond2 (grid0.coords t) = 1#1) (d) :
    owns (c : Thread nD τ) (ms6 t) fullShare ((dats m 0 c).before 6 t d) ⊢ ((dats m 0 c).leavesExact 6 t : sProp 𝕄) := by
  unfold Dat.leavesExact
  rw [idle6 t h]
  cases hf : (cfg0.win 6).flush t
  · dsimp only
    iintro H
    iexists d
    iexact H
  · have := (flush6 t).mp hf
    rw [before6 m c d 10 t (by omega) this.2, ← after6]

/-- Where it projects, the projection is. -/
theorem leaves6_live (c : Dev nD) (t : Fin cfg0.N) (h : k0_cond2 (grid0.coords t) = 1#1) :
    owns (c : Thread nD τ) (ms6 t) fullShare (projected m c t) ⊢ ((dats m 0 c).leavesExact 6 t : sProp 𝕄) := by
  unfold Dat.leavesExact
  rw [live6 t h, ← after6]

/-- A projecting point stores the projection of the image before its own. -/
theorem newOut_eq (c : Dev nD) (t : Fin cfg0.N) (h : k0_cond2 (grid0.coords t) = 1#1) (s) (hs : Holds (stored m c) (t.val + 1) s) :
    newOut (grid0.coords t) h s (iblk m c 4 t) (iblk m c 5 t) = projected m c t := by
  have h12 := (projects_iff t).mp h
  have hN : t.val < 60 := lt_of_lt_of_eq t.isLt pts
  unfold newOut projected
  rw [hs.window h (imgOf t.val) (by show (t.val / 12 - 1) % 4 + 1 = _; omega)]

/-- The body at every point. -/
theorem sound_body (c : Dev nD) (t : Fin cfg0.N) :
    bodyPre m c t ⊢ wp frame (wpE (defs₀ (F := F)) Variants.none c none) Set.univ (bodyAt0 t) (fun _ => bodyPost m c t) := by
  refine body_of_run m c t fun d6 s hs => ?_
  by_cases h0 : k0_cond1 (grid0.coords t) = 1#1 <;> by_cases h1 : k0_cond2 (grid0.coords t) = 1#1
  · have hs' := hs.store ((samples_iff t).mp h0)
    exact ⟨_, _, hs', leaves6_live m c t h1, fun K => by
      rw [← newOut_eq m c t h1 _ hs']
      exact run_B c (grid0.coords t) _ (hs0 t) _ (hs1 t) _ (hs2 t) _ (hs3 t) _ (hs4 t) _ (hs5 t) _ (hs6 t) _ _ h0 h1 _ _ _ _ _ _ _ s _ K⟩
  · exact ⟨_, _, hs.store ((samples_iff t).mp h0), leaves6_idle m c t h1 d6, fun K =>
      run_A c (grid0.coords t) _ (hs0 t) _ (hs1 t) _ (hs2 t) _ (hs3 t) _ (hs4 t) _ (hs5 t) _ (hs6 t) _ _ h0 h1 _ _ _ _ _ _ _ s _ K⟩
  · have hs' := hs.keep (by have := mt (samples_iff t).mpr h0; omega)
    exact ⟨_, _, hs', leaves6_live m c t h1, fun K => by
      rw [← newOut_eq m c t h1 _ hs']
      exact run_C c (grid0.coords t) _ (hs0 t) _ (hs1 t) _ (hs2 t) _ (hs3 t) _ (hs4 t) _ (hs5 t) _ (hs6 t) _ _ h0 h1 _ _ _ _ _ _ _ s _ K⟩
  · exact ⟨_, _, hs.keep (by have := mt (samples_iff t).mpr h0; omega), leaves6_idle m c t h1 d6, fun K =>
      run_D c (grid0.coords t) _ (hs0 t) _ (hs1 t) _ (hs2 t) _ (hs3 t) _ (hs4 t) _ (hs5 t) _ (hs6 t) _ _ h0 h1 _ _ _ _ _ _ _ s _ K⟩

/-- The body table's row at point `t`'s buffers is the body. -/
theorem defs_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The launch -/

/-- Between calls the scratch is held at some contents. -/
theorem rest_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

set_option backward.isDefEq.respectTransparency.types false in
set_option maxHeartbeats 800000 in
/-- The launch: every array of the call ends at what the data say, every other at what the lines after the call make of
    it, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => by
      rw [rest_eq, show (dats m 0 c).Φ 0 = iprop(∃ s, ⌜Holds (stored m c) 0 s⌝ ∗ owns (c : Thread nD τ) scr fullShare s ∗ (∃ r, prngReg c r)) from rfl]
      iintro ⟨⟨%d, HS⟩, Hg⟩
      iexists d
      isplitr; · ipureintro; exact Holds.zero _ _
      isplitl [HS]; · iexact HS
      iexact Hg)
    (hout := fun c => by
      rw [rest_eq, show (dats m 0 c).Φ (Fin.last cfg0.N) = iprop(∃ s, ⌜Holds (stored m c) cfg0.N s⌝ ∗ owns (c : Thread nD τ) scr fullShare s ∗ (∃ r, prngReg c r)) from rfl]
      iintro ⟨%s, -, HS, Hg⟩
      isplitl [HS]; · iexists s; iexact HS
      iexact Hg)

/-- At any float type, the program keeps its arguments and ends with every counter at zero. -/
theorem frame_at : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Own

end
-- ==== Proof.Result.lean ====
/-
  The kernel's result over the extended reals, as a function of the arguments.
-/
module

public import proofs.«01_k».proof.Proof.Entry
public import proofs.«01_k».proof.Proof.KernelRead
public import proofs.«01_k».proof.Proof.Launch
public import Idealize.ShloMosaic.Lib.Pipeline.ValueKit

@[expose] public section

set_option maxRecDepth 16384

noncomputable section

namespace Cert.KernelIdeal.Own

open Idealize.ShloMosaic Idealize.ShloMosaic.TcCoe Idealize.SL.Sem
open Cert.KernelIdeal Cert.KernelIdeal.Gen Cert.Own
open Idealize.ShloMosaic.Pipeline (Dat Cfg Window)

variable (m : (ℓ : Loc nD τ sig) → Buf (Elt Ideal) ℓ) (c : Dev nD)

/-! ## The blocks of a sampling point -/

/-- Which block of its array each window reads or writes at a point. -/
theorem index0 : ∀ (n : Fin 4) (h : Fin 12), win0_0.index (ptOf n h) = ![n.val, 0, 0] := by decide +kernel
theorem index1 : ∀ (n : Fin 4) (h : Fin 12), win0_1.index (ptOf n h) = ![n.val, 0, 0] := by decide +kernel
theorem index2 : ∀ (n : Fin 4) (h : Fin 12), win0_2.index (ptOf n h) = ![h.val, 0, 0] := by decide +kernel
theorem index3 : ∀ (n : Fin 4) (h : Fin 12), win0_3.index (ptOf n h) = ![h.val, 0, 0] := by decide +kernel
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val / 12 - 1, 0, 0] := (by decide +kernel : ∀ t : Fin grid0.N, _)

/-- The query block of a sampling point is its image's. -/
theorem blk0 (n : Fin 4) (h : Fin 12) (e : Fin 768) (l : Fin 1024) :
    (iblk m c 0 (ptOf n h) : S1x768x1024.Idx → EReal) (ix3 0 e l) = (argsOf m c).query n l e := by
  rw [← entry_query]
  blk_ext [iblk, index0]

/-- Its block of reference points is its image's. -/
theorem blk1 (n : Fin 4) (h : Fin 12) (s : Fin 2) (l : Fin 1024) :
    (iblk m c 1 (ptOf n h) : S1x2x1024.Idx → EReal) (ix3 0 s l) = (argsOf m c).point n l s * 32 - ((1 / 2 : ℝ) : EReal) := by
  rw [← entry_point]
  blk_ext [iblk, index1]

/-- Its block of weights is its head's. -/
theorem blk2 (n : Fin 4) (h : Fin 12) (r : Fin 88) (e : Fin 768) :
    (iblk m c 2 (ptOf n h) : S1x88x768.Idx → EReal) (ix3 0 r e) = (V m c main_v18 : S12x88x768.Idx → EReal) (ix3 h r e) := by
  blk_ext [iblk, index2]

/-- Its block of biases is its head's. -/
theorem blk3 (n : Fin 4) (h : Fin 12) (r : Fin 88) :
    (iblk m c 3 (ptOf n h) : S1x88x1.Idx → EReal) (ix3 0 r 0) = (V m c main_v31 : S12x88x1.Idx → EReal) (ix3 h r 0) := by
  blk_ext [iblk, index3]

/-- The output weights' block is the whole array. -/
theorem blk4 (t : Fin cfg0.N) (o r : Fin 768) : (iblk m c 4 t : S768x768.Idx → EReal) (ix2 o r) = (argsOf m c).wOut r o := by
  rw [← entry_wOut]
  blk_ext [iblk, index4]

/-- The output bias's block is the whole array. -/
theorem blk5 (t : Fin cfg0.N) (o : Fin 768) : (iblk m c 5 t : S768x1.Idx → EReal) (ix2 o 0) = (argsOf m c).bOut o := by
  rw [← entry_bOut]
  blk_ext [iblk, index5]

/-! ## One head's result -/

/-- The projections of a sampling point. -/
def proj (n : Fin 4) (h : Fin 12) (r : Fin 88) (l : Fin 1024) : EReal :=
  k0_pay3 (iblk m c 0 (ptOf n h)) (iblk m c 2 (ptOf n h)) (iblk m c 3 (ptOf n h)) (ix2 r l)

/-- The joined weights and biases, as the call finds them. -/
def weights : S12x88x768.Idx → EReal := V m c main_v18
def biases : S12x88x1.Idx → EReal := V m c main_v31

/-- A row of them: the joined weights times the query, plus the joined bias. -/
theorem proj_eq (n : Fin 4) (h : Fin 12) (r : Fin 88) (l : Fin 1024) :
    proj m c n h r l = (∑ e : Fin 768, weights m c (ix3 h r e) * (argsOf m c).query n l e) + biases m c (ix3 h r 0) := by
  unfold proj
  rw [pay3_apply, blk3]
  refine congrArg (· + _) (Finset.sum_congr rfl fun e _ => ?_)
  rw [blk2, blk0]
  rfl

/-- Rows 0 to 63 are the values. -/
theorem proj_value (n : Fin 4) (h : Fin 12) (i : Fin 64) (l : Fin 1024) :
    proj m c n h ⟨i.val, by omega⟩ l = (argsOf m c).value n h i l := by
  have hi : (⟨h.val * 64 + i.val, by omega⟩ : Fin 768) = ⟨64 * h.val + i.val, by omega⟩ := Fin.ext (by simp only; omega)
  rw [proj_eq, weights, biases, entry_weights, entry_biases, joinedBiases_apply, dif_pos i.isLt]
  simp only [joinedWeights_apply, dif_pos i.isLt]
  simp only [hi]
  refine congrArg (· + _) (Finset.sum_congr rfl fun e _ => ?_)
  exact mul_comm _ _

/-- Rows 64 to 71, with the reference point, are the positions across. -/
theorem proj_across (n : Fin 4) (h : Fin 12) (p : Fin 8) (l : Fin 1024) :
    proj m c n h ⟨64 + p.val, by omega⟩ l + ((argsOf m c).point n l 0 * 32 - ((1 / 2 : ℝ) : EReal)) = (argsOf m c).place n h 0 l p := by
  have hp : ¬ 64 + p.val < 64 := by omega
  have hp' : 64 + p.val - 64 < 8 := by omega
  have hi : (⟨h.val * 16 + (64 + p.val - 64) * 2, by omega⟩ : Fin 192) = ⟨(8 * h.val + p.val) * 2 + (0 : Fin 2).val, by simp; omega⟩ :=
    Fin.ext (by simp; omega)
  rw [proj_eq, weights, biases, entry_weights, entry_biases, joinedBiases_apply, dif_neg hp, dif_pos hp']
  simp only [joinedWeights_apply, dif_neg hp, dif_pos hp']
  simp only [hi]
  rfl

/-- Rows 72 to 79, with the reference point, are the positions down. -/
theorem proj_down (n : Fin 4) (h : Fin 12) (p : Fin 8) (l : Fin 1024) :
    proj m c n h ⟨72 + p.val, by omega⟩ l + ((argsOf m c).point n l 1 * 32 - ((1 / 2 : ℝ) : EReal)) = (argsOf m c).place n h 1 l p := by
  have hp : ¬ 72 + p.val < 64 := by omega
  have hp' : ¬ 72 + p.val - 64 < 8 := by omega
  have hp'' : 72 + p.val - 64 - 8 < 8 := by omega
  have hi : (⟨h.val * 16 + (72 + p.val - 64 - 8) * 2 + 1, by omega⟩ : Fin 192) = ⟨(8 * h.val + p.val) * 2 + (1 : Fin 2).val, by simp; omega⟩ :=
    Fin.ext (by simp; omega)
  rw [proj_eq, weights, biases, entry_weights, entry_biases, joinedBiases_apply, dif_neg hp, dif_neg hp', dif_pos hp'']
  simp only [joinedWeights_apply, dif_neg hp, dif_neg hp', dif_pos hp'']
  simp only [hi]
  rfl

/-- Rows 80 to 87 are the attention logits. -/
theorem proj_logit (n : Fin 4) (h : Fin 12) (p : Fin 8) (l : Fin 1024) :
    proj m c n h ⟨80 + p.val, by omega⟩ l = (argsOf m c).logit n h l p := by
  have hp : ¬ 80 + p.val < 64 := by omega
  have hp' : ¬ 80 + p.val - 64 < 8 := by omega
  have hp'' : ¬ 80 + p.val - 64 - 8 < 8 := by omega
  have hi : (⟨h.val * 8 + (80 + p.val - 64 - 8 - 8), by omega⟩ : Fin 96) = ⟨8 * h.val + p.val, by omega⟩ :=
    Fin.ext (by simp only; omega)
  rw [proj_eq, weights, biases, entry_weights, entry_biases, joinedBiases_apply, dif_neg hp, dif_neg hp', dif_neg hp'']
  simp only [joinedWeights_apply, dif_neg hp, dif_neg hp', dif_neg hp'']
  simp only [hi]
  refine congrArg (· + _) (Finset.sum_congr rfl fun e _ => ?_)
  exact mul_comm _ _

/-- A row of the block of reference points, as the body loads it. -/
theorem row0 (x : Vec Ideal S1x2x1024 .f32) (l : Fin 1024) :
    VecWindow.window (s := S1x2x1024) x ![0, 0, 0] S1x1x1024.size inb_S1x2x1024_S1x1x1024_0_0_0 (ix3 0 0 l) = x (ix3 0 0 l) :=
  congrArg x (funext fun a => Fin.ext (by match a with | ⟨0, _⟩ => rfl | ⟨1, _⟩ => rfl | ⟨2, _⟩ => show 0 + 1 * l.val = l.val; omega))
theorem row1 (x : Vec Ideal S1x2x1024 .f32) (l : Fin 1024) :
    VecWindow.window (s := S1x2x1024) x ![0, 1, 0] S1x1x1024.size inb_S1x2x1024_S1x1x1024_0_1_0 (ix3 0 0 l) = x (ix3 0 1 l) :=
  congrArg x (funext fun a => Fin.ext (by match a with | ⟨0, _⟩ => rfl | ⟨1, _⟩ => rfl | ⟨2, _⟩ => show 0 + 1 * l.val = l.val; omega))

/-- What a sampling point stores is its head's result for its image. -/
theorem stored_apply (n : Fin 4) (h : Fin 12) (i : Fin 64) (l : Fin 1024) :
    (stored m c (ptOf n h) (ix3 0 i l) : EReal) = (argsOf m c).head n h i l := by
  have hv : (fun k => proj m c n h ⟨i.val, by omega⟩ k) = (argsOf m c).value n h i := funext fun k => proj_value m c n h i k
  have hz : (fun p : Fin 8 => proj m c n h ⟨80 + p.val, by omega⟩ l) = (argsOf m c).logit n h l := funext fun p => proj_logit m c n h p l
  have hx : (fun p : Fin 8 => proj m c n h ⟨64 + p.val, by omega⟩ l + ((argsOf m c).point n l 0 * 32 - ((1 / 2 : ℝ) : EReal)))
      = (argsOf m c).place n h 0 l := funext fun p => proj_across m c n h p l
  have hy : (fun p : Fin 8 => proj m c n h ⟨72 + p.val, by omega⟩ l + ((argsOf m c).point n l 1 * 32 - ((1 / 2 : ℝ) : EReal)))
      = (argsOf m c).place n h 1 l := funext fun p => proj_down m c n h p l
  unfold stored
  rw [pay1_apply, sampPay_apply, row0, row1, blk1, blk1]
  unfold Args.head
  rw [← hv, ← hz, ← hx, ← hy]
  rfl

/-! ## The result -/

/-- The projected image at a channel and a position. -/
theorem projected_apply (t : Fin cfg0.N) (o : Fin 768) (l : Fin 1024) :
    (projected m c t (ix3 0 o l) : EReal) = (argsOf m c).out (imgOf t.val) l o := by
  unfold projected
  rw [pay2_apply, blk5]
  unfold Args.out
  refine congrArg (· + _) (Finset.sum_congr rfl fun r _ => ?_)
  rw [blk4, mul_comm]
  exact congrArg (· * _) (stored_apply m c (imgOf t.val) ⟨r.val / 64, by omega⟩ ⟨r.val % 64, by omega⟩ l)

/-- The call's output array: every image's projection. -/
def outArray : S4x768x1024.Idx → EReal := fun j => (argsOf m c).out (j 0) (j 2) (j 1)

/-- After the run the output window's array holds every image's projection. -/
theorem arr_eq : (dats m 0 c).arrAt 6 cfg0.N = outArray m c := by
  refine (dats m 0 c).arrAt_eq_of_covers 6 _ (by decide +kernel) fun t hf y => ?_
  blk_simp
  rw [after6]
  have hn := (flush6 t).mp hf
  have e : y = ix3 0 (y 1 : Fin 768) (y 2 : Fin 1024) := funext fun a => by
    match a with
    | ⟨0, _⟩ => exact Fin.ext (Nat.lt_one_iff.mp (y 0).isLt)
    | ⟨1, _⟩ => rfl
    | ⟨2, _⟩ => rfl
  have hN := pts
  have h0 : ((win0_6.blk t).view.emb y 0 : Fin 4) = imgOf t.val := Fin.ext (by
    blk_simp [index6]
    have : (y 0).val < 1 := (y 0).isLt
    have ht : t.val < 60 := hN ▸ t.isLt
    simp [imgOf]
    omega)
  have h1 : ((win0_6.blk t).view.emb y 1 : Fin 768) = y 1 := Fin.ext (by blk_simp [index6])
  have h2 : ((win0_6.blk t).view.emb y 2 : Fin 1024) = y 2 := Fin.ext (by blk_simp [index6])
  unfold outArray
  rw [h0, h1, h2, e]
  exact projected_apply m c t _ _

/-- The program's result. -/
def result : S4x32x32x768.Idx → EReal := fun j =>
  (argsOf m c).out (j 0) ⟨(j 1).val * 32 + (j 2).val, by have h1 : (j 1).val < 32 := (j 1).isLt; have h2 : (j 2).val < 32 := (j 2).isLt; omega⟩ (j 3)

/-- The host's last two operations move the channel last and split the position into row and column. -/
theorem unfolded (X : FVec Ideal S4x768x1024 .f32) (n : Fin 4) (y x : Fin 32) (o : Fin 768) :
    shapeCast S4x32x32x768 (transpose S4x1024x768 [0, 2, 1] X transposes_S4x768x1024_S4x1024x768_0_2_1)
      shapeCasts_S4x1024x768_S4x32x32x768 (ix4 n y x o) = X (ix3 n o ⟨y.val * 32 + x.val, by omega⟩) := by
  pointwise

/-- After the run the result buffer holds the result. -/
theorem tail_eq : Pipeline.afterTail₀ cfgs (dats m) 0 (V0 m) [hostOps1] c main_v44 = result m c := by
  have hw : Pipeline.withArrays (cfgs 0).spec c (V0 m c) (fun w => (dats m 0 c).arrAt w (cfgs 0).N) (Proc.devRef .tc main_v42) = outArray m c :=
    (Pipeline.withArrays_arr spec0 (by decide) c _ _ 6).trans (arr_eq m c)
  unfold Pipeline.afterTail₀ hostOps1
  simp only [List.flatten_cons, List.flatten_nil, List.append_nil]
  after_reads_simp
  rw [hw]
  funext j
  have e : j = ix4 (j 0 : Fin 4) (j 1 : Fin 32) (j 2 : Fin 32) (j 3 : Fin 768) := funext fun a => by
    match a with
    | ⟨0, _⟩ => rfl
    | ⟨1, _⟩ => rfl
    | ⟨2, _⟩ => rfl
    | ⟨3, _⟩ => rfl
  rw [e]
  exact unfolded (outArray m c) _ _ _ _

end Cert.KernelIdeal.Own

end
-- ==== Proof.Twin.lean ====
/-
  The kernel is printed twice, once to be read with float words and once over the extended reals. Nothing was rewritten
  between the two, so they are one program, and what is proved of the second at any float type holds of the first.
-/
module

public import proofs.«01_k».proof.Proof.Gen.Kernel
public import proofs.«01_k».proof.Proof.Launch

@[expose] public section

namespace Cert.Kernel.Own

open Idealize.ShloMosaic Idealize.SL.Sem

variable {F : FTy → Type} [FloatOps F]

/-- The kernel's bodies are the same in both prints. -/
theorem bodies_eq : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl

/-- So are the bodies with their pipeline. -/
theorem defs_eq : Cert.Kernel.defs (F := F) = Cert.KernelIdeal.defs (F := F) :=
  congrArg (Pipeline.defs (Cert.Kernel.pcfgs (F := F))) bodies_eq

set_option maxHeartbeats 2000000 in
/-- So is the host program. -/
theorem main_eq : Cert.Kernel.main (F := F) = Cert.KernelIdeal.main (F := F) := rfl

/-- What every run of the second print ends with, every run of the first does. -/
theorem run_of {s : MemSt Cert.KernelIdeal.nD Cert.KernelIdeal.τ Cert.KernelIdeal.sig (Elt F)}
    {Q : PUnit × MemSt Cert.KernelIdeal.nD Cert.KernelIdeal.τ Cert.KernelIdeal.sig (Elt F) → Prop}
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  have key : ∀ D, D = Cert.KernelIdeal.defs (F := F) → ∀ M, M = Cert.KernelIdeal.main (F := F) →
      θ_run D (onTc (τ := Cert.KernelIdeal.τ) M) s Q := fun D hD M hM => by
    subst hD; subst hM; exact h
  exact key _ defs_eq _ main_eq

end Cert.Kernel.Own
-- ==== Proof.Sample.lean ====
/-
  The reference's form of the mathematics, over the extended reals and free of any program: sampling an image at the four
  cells around a point.
-/
module

public import proofs.«01_k».proof.Proof.Mix
public import Idealize.ShloMosaic.PureOps.Ideal

@[expose] public section

noncomputable section

namespace Cert.Own

open Idealize.ShloMosaic

/-- An index word as a row or column of a 32 by 32 image: read signed and clamped to the image. -/
def clampCell (w : BitVec 32) : Fin 32 := ⟨min w.toInt.toNat 31, by omega⟩

/-- A coordinate as an index word: clamped to 0 … 31 and converted to an integer. -/
def gridWord (u : EReal) : BitVec 32 :=
  FloatOps.fptosi (F := Ideal) (φ := .f32) 32
    (min (FloatOps.sitofp (F := Ideal) FTy.f32 31#32 : EReal) (max (FloatOps.sitofp (F := Ideal) FTy.f32 0#32 : EReal) u))

/-- The index word as the reference uses it: a negative one counts from the far end. -/
def wrapWord (u : EReal) : BitVec 32 :=
  Scalar.select (IntOp.cmpi .slt (gridWord u) 0#32) (IntOp.addi (gridWord u) 32#32) (gridWord u)

/-- The row or column of the image that a coordinate names. -/
def cell (u : EReal) : Fin 32 := clampCell (wrapWord u)

/-- One when row coordinate `Y` and column coordinate `X` lie in the image, zero otherwise: the reference's mask. -/
def mask (Y X : EReal) : EReal :=
  FloatOps.uitofp (F := Ideal) FTy.f32
    (IntOp.andi (IntOp.andi (IntOp.andi (BitVec.ofBool (decide (0 ≤ Y))) (BitVec.ofBool (decide (Y < 32))))
      (BitVec.ofBool (decide (0 ≤ X)))) (BitVec.ofBool (decide (X < 32))))

/-- The image's value at the cell that `Y` and `X` name, zero outside the image, times the weight `w`. -/
def corner (v : Fin 1024 → EReal) (Y X w : EReal) : EReal :=
  v ⟨(cell Y).val * 32 + (cell X).val, by omega⟩ * mask Y X * w

/-- The largest integer not above an extended real. -/
def low (u : EReal) : EReal := Ideal.liftRound Int.floor u

/-- The image sampled at column coordinate `x` and row coordinate `y`: the four cells around the point, weighed by nearness. -/
def sample (v : Fin 1024 → EReal) (x y : EReal) : EReal :=
  corner v (low y) (low x) ((1 - (y - low y)) * (1 - (x - low x)))
    + corner v (low y) (low x + 1) ((1 - (y - low y)) * (x - low x))
    + corner v (low y + 1) (low x) ((y - low y) * (1 - (x - low x)))
    + corner v (low y + 1) (low x + 1) ((y - low y) * (x - low x))

namespace Args

variable (A : Args)

/-- The reference's position of a point, in pixels. -/
def spot (n : Fin 4) (h : Fin 12) (s : Fin 2) (l : Fin 1024) (p : Fin 8) : EReal :=
  Ideal.div (((2 * (A.point n l s + A.offset n h p s l) - 1) + 1) * 32) 2 - ((1 / 2 : ℝ) : EReal)

/-- Channel `i` of head `h`'s result at image `n`, position `l`, in the reference's form. -/
def refHead (n : Fin 4) (h : Fin 12) (i : Fin 64) (l : Fin 1024) : EReal :=
  ∑ p : Fin 8, sample (A.value n h i) (A.spot n h 0 l p) (A.spot n h 1 l p)
    * softAt (peak (A.logit n h l)) (A.logit n h l) p

/-- Channel `o` of the output at image `n`, position `l`, in the reference's form. -/
def refOut (n : Fin 4) (l : Fin 1024) (o : Fin 768) : EReal :=
  (∑ r : Fin 768, A.refHead n ⟨r.val / 64, by omega⟩ ⟨r.val % 64, by omega⟩ l * A.wOut r o) + A.bOut o

end Args

/-- The bit pattern of two. -/
theorem ofBits_2 : Ideal.ofBits FTy.f32 1073741824#32 = 2 := by
  simp [Ideal.ofBits, Ideal.ieee]
  rw [← EReal.coe_mul]
  norm_num
  rfl

end Cert.Own

end
-- ==== Proof.RefGather.lean ====
/-
  The reference's gather: one cell of each 32 by 32 image, at the row and column an index table names.
-/
module

public import proofs.«01_k».proof.Proof.Gen.ReferenceIdeal.Read
public import proofs.«01_k».proof.Proof.Sample
public import Idealize.ShloMosaic.Lib.Pointwise

@[expose] public section

set_option maxRecDepth 16384

noncomputable section

namespace Cert.ReferenceIdeal.Own

open Idealize.ShloMosaic
open Cert.ReferenceIdeal Cert.ReferenceIdeal.Gen Cert.Own

/-- The gather's element at image `b`, channel `i`, position `l`, point `p`: the image's value at the row and the column that
    the index table holds for that position and point. -/
theorem gather_cell {α : Type} (v : S48x64x32x32.Idx → α) (idx : IVec S48x1024x8x2 32) (b : Fin 48) (i : Fin 64) (l : Fin 1024) (p : Fin 8) :
    Host.gather gather_S48x64x32x32_S48x1024x8x2_S48x64x1024x8_1_23_0_0_23_3_16411 v idx (ix4 b i l p)
      = v (ix4 b i (clampCell (idx (ix4 b l p 0))) (clampCell (idx (ix4 b l p 1)))) := by
  unfold Host.gather
  generalize hd : gather_S48x64x32x32_S48x1024x8x2_S48x64x1024x8_1_23_0_0_23_3_16411 = d
  refine congrArg v (funext fun a => Fin.ext ?_)
  show d.start (ix4 b i l p) idx a + d.batchCoord (ix4 b i l p) a + d.offCoord (ix4 b i l p) a = _
  subst hd
  rcases (by decide : ∀ a : Fin 4, a = 0 ∨ a = 1 ∨ a = 2 ∨ a = 3) a with rfl | rfl | rfl | rfl
  · rw [GatherDims.start_batching _ _ _ _ (by decide), GatherDims.offCoord_eq_zero _ _ _ (by decide)]
    simp only [Nat.zero_add, Nat.add_zero]
    rfl
  · rw [GatherDims.batchCoord_eq_zero _ _ _ (by decide)]
    unfold GatherDims.start
    rw [dif_neg (by decide)]
    simp only [Nat.zero_add, Nat.add_zero]
    rfl
  · rw [GatherDims.batchCoord_eq_zero _ _ _ (by decide), GatherDims.offCoord_eq_zero _ _ _ (by decide)]
    simp only [Nat.add_zero]
    unfold GatherDims.start
    rw [dif_pos (by decide)]
    refine congrArg (fun j => min (idx j).toInt.toNat 31) (funext fun c => Fin.ext ?_)
    match c with
    | ⟨0, _⟩ => rfl
    | ⟨1, _⟩ => rfl
    | ⟨2, _⟩ => rfl
    | ⟨3, _⟩ => rfl
  · rw [GatherDims.batchCoord_eq_zero _ _ _ (by decide), GatherDims.offCoord_eq_zero _ _ _ (by decide)]
    simp only [Nat.add_zero]
    unfold GatherDims.start
    rw [dif_pos (by decide)]
    refine congrArg (fun j => min (idx j).toInt.toNat 31) (funext fun c => Fin.ext ?_)
    match c with
    | ⟨0, _⟩ => rfl
    | ⟨1, _⟩ => rfl
    | ⟨2, _⟩ => rfl
    | ⟨3, _⟩ => rfl

end Cert.ReferenceIdeal.Own

end
-- ==== Proof.RefCorner.lean ====
/-
  One corner of the reference's bilinear sampling, as the arrays the reference computes: the index table, the gathered cells,
  the mask and the weight. The reference does this four times, once for each cell around a point.
-/
module

public import proofs.«01_k».proof.Proof.RefGather

@[expose] public section

set_option maxRecDepth 16384

noncomputable section

namespace Cert.ReferenceIdeal.Own

open Idealize.ShloMosaic Idealize.ShloMosaic.TcCoe
open Cert.ReferenceIdeal Cert.ReferenceIdeal.Gen Cert.Own

/-- One number at every image, position and point. -/
def splat {α : Type} (x : S_.Idx → α) : S48x1024x8.Idx → α := broadcastInDim S48x1024x8 ![] bcast_S_S48x1024x8 x

/-- An array's coordinates as index words, clamped to the image. -/
def words (Y : FVec Ideal S48x1024x8 .f32) : IVec S48x1024x8 32 :=
  fptosi 32 (minimumf (splat (sitofp .f32 (constantI S_ 32 31#32))) (maximumf (splat (sitofp .f32 (constantI S_ 32 0#32))) Y))

/-- The index words with the negative ones counted from the far end. -/
def wrapped (Y : FVec Ideal S48x1024x8 .f32) : IVec S48x1024x8 32 :=
  select (cmpi .slt (words Y) (splat (constantI S_ 32 0#32))) (addi (words Y) (splat (constantI S_ 32 32#32))) (words Y)

/-- The index table: the row in its first column, the column in its second. -/
def table (Y X : FVec Ideal S48x1024x8 .f32) : IVec S48x1024x8x2 32 :=
  concatenate S48x1024x8x2 3
    [⟨S48x1024x8x1, broadcastInDim S48x1024x8x1 ![0, 1, 2] bcast_S48x1024x8_S48x1024x8x1_0_1_2 (wrapped Y)⟩,
      ⟨S48x1024x8x1, broadcastInDim S48x1024x8x1 ![0, 1, 2] bcast_S48x1024x8_S48x1024x8x1_0_1_2 (wrapped X)⟩]
    concatenates_S48x1024x8x1_S48x1024x8x1_S48x1024x8x2_d3

/-- Whether row `Y` and column `X` lie in the image. -/
def within (Y X : FVec Ideal S48x1024x8 .f32) : IVec S48x1024x8 1 :=
  andi (andi (andi (cmpf .oge Y (splat (constant S_ .f32 0x00000000#32))) (cmpf .olt Y (splat (constant S_ .f32 0x42000000#32))))
    (cmpf .oge X (splat (constant S_ .f32 0x00000000#32)))) (cmpf .olt X (splat (constant S_ .f32 0x42000000#32)))

/-- The gathered cells times the mask times the weight `W`. -/
def cornerArray (v : FVec Ideal S48x64x32x32 .f32) (Y X W : FVec Ideal S48x1024x8 .f32) : FVec Ideal S48x64x1024x8 .f32 :=
  mulf
    (mulf (Host.gather gather_S48x64x32x32_S48x1024x8x2_S48x64x1024x8_1_23_0_0_23_3_16411 v (table Y X))
      (broadcastInDim S48x64x1024x8 ![0, 1, 2, 3] bcast_S48x1x1024x8_S48x64x1024x8_0_1_2_3
        (uitofp .f32 (broadcastInDim S48x1x1024x8 ![0, 2, 3] bcast_S48x1024x8_S48x1x1024x8_0_2_3 (within Y X)))))
    (broadcastInDim S48x64x1024x8 ![0, 1, 2, 3] bcast_S48x1x1024x8_S48x64x1024x8_0_1_2_3
      (broadcastInDim S48x1x1024x8 ![0, 2, 3] bcast_S48x1024x8_S48x1x1024x8_0_2_3 W))

variable (v : FVec Ideal S48x64x32x32 .f32) (Y X W : FVec Ideal S48x1024x8 .f32)
variable (b : Fin 48) (i : Fin 64) (l : Fin 1024) (p : Fin 8)

/-- An index word of the array is the coordinate's index word. -/
theorem wrapped_apply : wrapped Y (ix3 b l p) = wrapWord (Y (ix3 b l p)) := rfl

/-- The index table's first column holds the rows. -/
theorem table_row : table Y X (ix4 b l p 0) = wrapWord (Y (ix3 b l p)) := by
  rw [← wrapped_apply]
  pointwise [table]

/-- The index table's second column holds the columns. -/
theorem table_column : table Y X (ix4 b l p 1) = wrapWord (X (ix3 b l p)) := by
  rw [← wrapped_apply]
  pointwise [table]

/-- The mask as a number. -/
theorem within_apply : FloatOps.uitofp (F := Ideal) FTy.f32 (within Y X (ix3 b l p)) = mask (Y (ix3 b l p)) (X (ix3 b l p)) := by
  pointwise [within, splat]
  rw [ofBits_32]
  rfl

/-- The gathered cell: the image's value at the row and the column that the coordinates name. -/
theorem gather_table :
    Host.gather gather_S48x64x32x32_S48x1024x8x2_S48x64x1024x8_1_23_0_0_23_3_16411 v (table Y X) (ix4 b i l p)
      = v (ix4 b i (cell (Y (ix3 b l p))) (cell (X (ix3 b l p)))) := by
  rw [gather_cell, table_row, table_column]
  rfl

/-- A corner of the sampling at image `b`, channel `i`, position `l`, point `p`, given that image's values as a list `f`. -/
theorem cornerArray_apply (f : Fin 1024 → EReal)
    (hf : ∀ y x : Fin 32, (v (ix4 b i y x) : EReal) = f ⟨y.val * 32 + x.val, by omega⟩) :
    (cornerArray v Y X W (ix4 b i l p) : EReal) = corner f (Y (ix3 b l p)) (X (ix3 b l p)) (W (ix3 b l p)) := by
  unfold corner
  rw [← hf, ← within_apply, ← gather_table v Y X b i l p]
  pointwise [cornerArray]

end Cert.ReferenceIdeal.Own

end
-- ==== Proof.RefRead.lean ====
/-
  The reference's result over the extended reals, read from the arguments one step at a time.
-/
module

public import proofs.«01_k».proof.Proof.RefCorner

@[expose] public section

set_option maxRecDepth 16384

noncomputable section

namespace Cert.ReferenceIdeal.Own

open Idealize.ShloMosaic Idealize.ShloMosaic.TcCoe
open Cert.ReferenceIdeal Cert.ReferenceIdeal.Gen Cert.ReferenceIdeal.Read Cert.Own

variable (x0 : FVec Ideal S4x32x32x768 .f32) (x1 : FVec Ideal S4x32x32x2 .f32) (x2 : FVec Ideal S768x192 .f32) (x3 : FVec Ideal S192 .f32)
  (x4 : FVec Ideal S768x96 .f32) (x5 : FVec Ideal S96 .f32) (x6 : FVec Ideal S768x768 .f32) (x7 : FVec Ideal S768 .f32)
  (x8 : FVec Ideal S768x768 .f32) (x9 : FVec Ideal S768 .f32)

/-- The reference's ten arguments as functions of plain coordinates. -/
def argsOf : Args where
  query n l e := x0 (ix4 n ⟨l.val / 32, by omega⟩ ⟨l.val % 32, by omega⟩ e)
  point n l s := x1 (ix4 n ⟨l.val / 32, by omega⟩ ⟨l.val % 32, by omega⟩ s)
  wOff e j := x2 (ix2 e j)
  bOff j := x3 (ix1 j)
  wAttn e j := x4 (ix2 e j)
  bAttn j := x5 (ix1 j)
  wVal e j := x6 (ix2 e j)
  bVal j := x7 (ix1 j)
  wOut e j := x8 (ix2 e j)
  bOut j := x9 (ix1 j)

/-- The values, as images: image `b` is batch entry `b / 12`'s head `b % 12`. -/
theorem v6_apply (b : Fin 48) (i : Fin 64) (y x : Fin 32) :
    (val_main_v6 (F := Ideal) x0 x6 x7 (ix4 b i y x) : EReal)
      = (argsOf x0 x1 x2 x3 x4 x5 x6 x7 x8 x9).value ⟨b.val / 12, by omega⟩ ⟨b.val % 12, by omega⟩ i ⟨y.val * 32 + x.val, by omega⟩ := by
  pointwise [val_main_v6, val_main_v5, val_main_v4, val_main_v3, val_main_v2, val_main_v1, val_main_v0]
  have hy : (y.val * 32 + x.val) / 32 = y.val := by omega
  have hx : (y.val * 32 + x.val) % 32 = x.val := by omega
  have hc : b.val % 12 * 64 + i.val = 64 * (b.val % 12) + i.val := by omega
  simp only [Args.value, argsOf, hy, hx, hc, Fin.eta]

/-- The attention logits. -/
theorem v17_apply (n : Fin 4) (l : Fin 1024) (h : Fin 12) (p : Fin 8) :
    (val_main_v17 (F := Ideal) x0 x4 x5 (ix4 n l h p) : EReal) = (argsOf x0 x1 x2 x3 x4 x5 x6 x7 x8 x9).logit n h l p := by
  pointwise [val_main_v17, val_main_v16, val_main_v15, val_main_v14, val_main_v13, val_main_v7]
  have hc : h.val * 8 + p.val = 8 * h.val + p.val := by omega
  simp only [Args.logit, argsOf, hc]

/-- The bit pattern of minus infinity. -/
theorem ofBits_bot : Ideal.ofBits FTy.f32 4286578688#32 = ⊥ := by
  simp [Ideal.ofBits, Ideal.ieee]

/-- The softmax weights. -/
theorem v28_apply (n : Fin 4) (l : Fin 1024) (h : Fin 12) (p : Fin 8) :
    (val_main_v28 (F := Ideal) x0 x4 x5 (ix4 n l h p) : EReal) = softAt (peak ((argsOf x0 x1 x2 x3 x4 x5 x6 x7 x8 x9).logit n h l)) ((argsOf x0 x1 x2 x3 x4 x5 x6 x7 x8 x9).logit n h l) p := by
  pointwise [val_main_v28, val_main_v27, val_main_v26, val_main_v25, val_main_v24, val_main_v23, val_main_v22, val_main_v21, val_main_v20, val_main_v19, val_main_v18, val_main_cst, val_main_cst_0, val_main_cst_1]
  rw [ofBits_bot, max_eq_right bot_le]
  simp only [v17_apply x0 x1 x2 x3 x4 x5 x6 x7 x8 x9]
  rfl

/-- The softmax weights, head by head. -/
theorem v223_apply (b : Fin 48) (l : Fin 1024) (p : Fin 8) :
    (val_main_v223 (F := Ideal) x0 x4 x5 (ix3 b l p) : EReal)
      = softAt (peak ((argsOf x0 x1 x2 x3 x4 x5 x6 x7 x8 x9).logit ⟨b.val / 12, by omega⟩ ⟨b.val % 12, by omega⟩ l)) ((argsOf x0 x1 x2 x3 x4 x5 x6 x7 x8 x9).logit ⟨b.val / 12, by omega⟩ ⟨b.val % 12, by omega⟩ l) p := by
  rw [← v28_apply]
  pointwise [val_main_v223, val_main_v222]

/-- The points' coordinates, scaled to run from minus one to one. -/
theorem v38_apply (b : Fin 48) (l : Fin 1024) (p : Fin 8) (s : Fin 2) :
    (val_main_v38 (F := Ideal) x0 x1 x2 x3 (ix4 b l p s) : EReal)
      = 2 * ((argsOf x0 x1 x2 x3 x4 x5 x6 x7 x8 x9).point ⟨b.val / 12, by omega⟩ l s + (argsOf x0 x1 x2 x3 x4 x5 x6 x7 x8 x9).offset ⟨b.val / 12, by omega⟩ ⟨b.val % 12, by omega⟩ p s l) - 1 := by
  pointwise [val_main_v38, val_main_v37, val_main_v36, val_main_v35, val_main_v34, val_main_v33, val_main_v32, val_main_v31, val_main_v30, val_main_v29, val_main_v12, val_main_v11, val_main_v10, val_main_v9, val_main_v8, val_main_v7, val_main_cst_2, val_main_cst_3]
  have hc : b.val % 12 * 16 + p.val * 2 + s.val = (8 * (b.val % 12) + p.val) * 2 + s.val := by omega
  rw [ofBits_2]
  simp only [Args.point, Args.offset, argsOf, hc]

/-- The points' column coordinates, in pixels. -/
theorem v48_apply (b : Fin 48) (l : Fin 1024) (p : Fin 8) :
    (val_main_v48 (F := Ideal) x0 x1 x2 x3 (ix3 b l p) : EReal) = (argsOf x0 x1 x2 x3 x4 x5 x6 x7 x8 x9).spot ⟨b.val / 12, by omega⟩ ⟨b.val % 12, by omega⟩ 0 l p := by
  pointwise [val_main_v48, val_main_v47, val_main_v46, val_main_v45, val_main_v44, val_main_v43, val_main_v42, val_main_v41, val_main_v40, val_main_v39, val_main_cst_4, val_main_cst_5, val_main_cst_6, val_main_cst_7]
  rw [v38_apply x0 x1 x2 x3 x4 x5 x6 x7 x8 x9, ofBits_2, ofBits_32, ofBits_half]
  rfl

/-- The points' row coordinates, in pixels. -/
theorem v58_apply (b : Fin 48) (l : Fin 1024) (p : Fin 8) :
    (val_main_v58 (F := Ideal) x0 x1 x2 x3 (ix3 b l p) : EReal) = (argsOf x0 x1 x2 x3 x4 x5 x6 x7 x8 x9).spot ⟨b.val / 12, by omega⟩ ⟨b.val % 12, by omega⟩ 1 l p := by
  pointwise [val_main_v58, val_main_v57, val_main_v56, val_main_v55, val_main_v54, val_main_v53, val_main_v52, val_main_v51, val_main_v50, val_main_v49, val_main_cst_8, val_main_cst_9, val_main_cst_10, val_main_cst_11]
  rw [v38_apply x0 x1 x2 x3 x4 x5 x6 x7 x8 x9, ofBits_2, ofBits_32, ofBits_half]
  rfl

/-- The cells' first column. -/
theorem v59_apply (j : S48x1024x8.Idx) :
    (val_main_v59 (F := Ideal) x0 x1 x2 x3 j : EReal) = low (val_main_v48 (F := Ideal) x0 x1 x2 x3 j) := rfl

/-- The cells' first row. -/
theorem v60_apply (j : S48x1024x8.Idx) :
    (val_main_v60 (F := Ideal) x0 x1 x2 x3 j : EReal) = low (val_main_v58 (F := Ideal) x0 x1 x2 x3 j) := rfl

/-- The cells' second column. -/
theorem v62_apply (b : Fin 48) (l : Fin 1024) (p : Fin 8) :
    (val_main_v62 (F := Ideal) x0 x1 x2 x3 (ix3 b l p) : EReal) = val_main_v59 (F := Ideal) x0 x1 x2 x3 (ix3 b l p) + (1 : EReal) := by
  pointwise [val_main_v62, val_main_v61, val_main_cst_12]

/-- The cells' second row. -/
theorem v64_apply (b : Fin 48) (l : Fin 1024) (p : Fin 8) :
    (val_main_v64 (F := Ideal) x0 x1 x2 x3 (ix3 b l p) : EReal) = val_main_v60 (F := Ideal) x0 x1 x2 x3 (ix3 b l p) + (1 : EReal) := by
  pointwise [val_main_v64, val_main_v63, val_main_cst_13]

/-- The four corners, as arrays. -/
theorem corners_eq :
    val_main_v107 (F := Ideal) x0 x1 x2 x3 x6 x7
        = cornerArray (val_main_v6 (F := Ideal) x0 x6 x7) (val_main_v60 (F := Ideal) x0 x1 x2 x3) (val_main_v59 (F := Ideal) x0 x1 x2 x3) (val_main_v104 (F := Ideal) x0 x1 x2 x3)
      ∧ val_main_v144 (F := Ideal) x0 x1 x2 x3 x6 x7
        = cornerArray (val_main_v6 (F := Ideal) x0 x6 x7) (val_main_v60 (F := Ideal) x0 x1 x2 x3) (val_main_v62 (F := Ideal) x0 x1 x2 x3) (val_main_v141 (F := Ideal) x0 x1 x2 x3)
      ∧ val_main_v181 (F := Ideal) x0 x1 x2 x3 x6 x7
        = cornerArray (val_main_v6 (F := Ideal) x0 x6 x7) (val_main_v64 (F := Ideal) x0 x1 x2 x3) (val_main_v59 (F := Ideal) x0 x1 x2 x3) (val_main_v178 (F := Ideal) x0 x1 x2 x3)
      ∧ val_main_v218 (F := Ideal) x0 x1 x2 x3 x6 x7
        = cornerArray (val_main_v6 (F := Ideal) x0 x6 x7) (val_main_v64 (F := Ideal) x0 x1 x2 x3) (val_main_v62 (F := Ideal) x0 x1 x2 x3) (val_main_v215 (F := Ideal) x0 x1 x2 x3) :=
  ⟨rfl, rfl, rfl, rfl⟩

/-- The four corners' weights. -/
theorem weights_apply (b : Fin 48) (l : Fin 1024) (p : Fin 8) (x y : EReal)
    (hx : (val_main_v48 (F := Ideal) x0 x1 x2 x3 (ix3 b l p) : EReal) = x)
    (hy : (val_main_v58 (F := Ideal) x0 x1 x2 x3 (ix3 b l p) : EReal) = y) :
    (val_main_v104 (F := Ideal) x0 x1 x2 x3 (ix3 b l p) : EReal) = (1 - (y - low y)) * (1 - (x - low x))
      ∧ (val_main_v141 (F := Ideal) x0 x1 x2 x3 (ix3 b l p) : EReal) = (1 - (y - low y)) * (x - low x)
      ∧ (val_main_v178 (F := Ideal) x0 x1 x2 x3 (ix3 b l p) : EReal) = (y - low y) * (1 - (x - low x))
      ∧ (val_main_v215 (F := Ideal) x0 x1 x2 x3 (ix3 b l p) : EReal) = (y - low y) * (x - low x) := by
  pointwise [val_main_v104, val_main_v141, val_main_v178, val_main_v215, val_main_v70, val_main_v69, val_main_v68, val_main_v67, val_main_v66, val_main_v65, val_main_cst_14, val_main_cst_15]
  simp only [v59_apply, v60_apply, hx, hy, and_self]

/-- The sampled value of image `b`, channel `i` at position `l`'s point `p`. -/
theorem v221_apply (b : Fin 48) (i : Fin 64) (l : Fin 1024) (p : Fin 8) :
    (val_main_v221 (F := Ideal) x0 x1 x2 x3 x6 x7 (ix4 b i l p) : EReal)
      = sample ((argsOf x0 x1 x2 x3 x4 x5 x6 x7 x8 x9).value ⟨b.val / 12, by omega⟩ ⟨b.val % 12, by omega⟩ i)
          ((argsOf x0 x1 x2 x3 x4 x5 x6 x7 x8 x9).spot ⟨b.val / 12, by omega⟩ ⟨b.val % 12, by omega⟩ 0 l p)
          ((argsOf x0 x1 x2 x3 x4 x5 x6 x7 x8 x9).spot ⟨b.val / 12, by omega⟩ ⟨b.val % 12, by omega⟩ 1 l p) := by
  obtain ⟨h0, h1, h2, h3⟩ := corners_eq x0 x1 x2 x3 x6 x7
  have hx := v48_apply x0 x1 x2 x3 x4 x5 x6 x7 x8 x9 b l p
  have hy := v58_apply x0 x1 x2 x3 x4 x5 x6 x7 x8 x9 b l p
  obtain ⟨w0, w1, w2, w3⟩ := weights_apply x0 x1 x2 x3 b l p _ _ hx hy
  have hc := fun Y X W => cornerArray_apply (val_main_v6 (F := Ideal) x0 x6 x7) Y X W b i l p _ (v6_apply x0 x1 x2 x3 x4 x5 x6 x7 x8 x9 b i)
  pointwise [val_main_v221, val_main_v220, val_main_v219]
  rw [h0, h1, h2, h3, hc, hc, hc, hc, w0, w1, w2, w3, v62_apply, v64_apply, v59_apply, v60_apply, hx, hy]
  rfl

/-- A head's result: the sampled values weighed by the softmax. -/
theorem v228_apply (b : Fin 48) (l : Fin 1024) (i : Fin 64) :
    (val_main_v228 (F := Ideal) x0 x1 x2 x3 x4 x5 x6 x7 (ix3 b l i) : EReal)
      = (argsOf x0 x1 x2 x3 x4 x5 x6 x7 x8 x9).refHead ⟨b.val / 12, by omega⟩ ⟨b.val % 12, by omega⟩ i l := by
  pointwise [val_main_v228, val_main_v227, val_main_v226, val_main_v225, val_main_v224, val_main_cst_63]
  simp only [v221_apply x0 x1 x2 x3 x4 x5 x6 x7 x8 x9, v223_apply x0 x1 x2 x3 x4 x5 x6 x7 x8 x9]
  rfl

/-- The reference's result, from the arguments. -/
theorem v236_apply (n : Fin 4) (y x : Fin 32) (o : Fin 768) :
    (val_main_v236 (F := Ideal) x0 x1 x2 x3 x4 x5 x6 x7 x8 x9 (ix4 n y x o) : EReal)
      = (argsOf x0 x1 x2 x3 x4 x5 x6 x7 x8 x9).refOut n ⟨y.val * 32 + x.val, by omega⟩ o := by
  pointwise [val_main_v236, val_main_v235, val_main_v234, val_main_v233, val_main_v232, val_main_v231, val_main_v230, val_main_v229]
  simp only [v228_apply x0 x1 x2 x3 x4 x5 x6 x7 x8 x9]
  refine congrArg₂ (· + ·) (Finset.sum_congr rfl fun r _ => congrArg (· * x8 (ix2 r o)) ?_) rfl
  have hn : (n.val * 12 + r.val / 64) / 12 = n.val := by omega
  have hh : (n.val * 12 + r.val / 64) % 12 = r.val / 64 := by omega
  simp only [hn, hh, Fin.eta]

end Cert.ReferenceIdeal.Own

end
-- ==== Proof.Bilinear.lean ====
/-
  Sums of tents are bilinear sampling: the identity, over the extended reals, between the kernel's form and the reference's.
-/
module

public import proofs.«01_k».proof.Proof.Sample
public import Mathlib.Data.EReal.Operations
public import Mathlib.Algebra.BigOperators.Fin
public import Mathlib.Tactic.Linarith

@[expose] public section

noncomputable section

namespace Cert.Own

open Idealize.ShloMosaic

/-! ### Sums over the extended reals -/

/-- A nonnegative real factor goes through a sum. -/
theorem coe_mul_sum {ι : Type*} (s : Finset ι) (f : ι → EReal) {a : ℝ} (ha : 0 ≤ a) : (a : EReal) * ∑ i ∈ s, f i = ∑ i ∈ s, (a : EReal) * f i := by
  classical
  induction s using Finset.induction_on with
  | empty => simp
  | insert i s hi ih =>
    rw [Finset.sum_insert hi, Finset.sum_insert hi, ← ih,
      EReal.left_distrib_of_nonneg_of_ne_top (by exact_mod_cast ha) (EReal.coe_ne_top a)]

/-- The same, from the right. -/
theorem sum_mul_coe {ι : Type*} (s : Finset ι) (f : ι → EReal) {a : ℝ} (ha : 0 ≤ a) : (∑ i ∈ s, f i) * (a : EReal) = ∑ i ∈ s, f i * (a : EReal) := by
  rw [mul_comm, coe_mul_sum s f ha]
  exact Finset.sum_congr rfl fun i _ => mul_comm _ _

/-- Any factor goes through a sum of nonnegative terms. -/
theorem mul_sum_of_nonneg {ι : Type*} (s : Finset ι) (f : ι → EReal) (hf : ∀ i, 0 ≤ f i) (v : EReal) : v * ∑ i ∈ s, f i = ∑ i ∈ s, v * f i := by
  classical
  induction s using Finset.induction_on with
  | empty => simp
  | insert i s hi ih =>
    rw [Finset.sum_insert hi, Finset.sum_insert hi, ← ih, EReal.left_distrib_of_nonneg (hf i) (Finset.sum_nonneg fun j _ => hf j)]

/-! ### The tent -/

/-- The tent of a real number. -/
theorem tent_coe (r : ℝ) : tent (r : EReal) = ((max (1 - |r|) 0 : ℝ) : EReal) := by
  unfold tent gap
  rw [← EReal.coe_neg, ← EReal.coe_strictMono.monotone.map_max, ← EReal.coe_one, ← EReal.coe_sub, ← EReal.coe_zero,
    ← EReal.coe_strictMono.monotone.map_max]
  rfl

theorem tent_top : tent ⊤ = 0 := by simp [tent, gap]

theorem tent_bot : tent ⊥ = 0 := by simp [tent, gap]

/-- A tent is a nonnegative real number, whatever it is taken of. -/
theorem tent_real (u : EReal) : ∃ r : ℝ, 0 ≤ r ∧ tent u = r := by
  induction u with
  | bot => exact ⟨0, le_rfl, by rw [tent_bot]; rfl⟩
  | top => exact ⟨0, le_rfl, by rw [tent_top]; rfl⟩
  | coe r => exact ⟨_, le_max_right _ _, tent_coe r⟩

/-- Multiplying the scale in before the clamp is the same as scaling the tent, for a nonnegative real scale. -/
theorem lift_coe {a : ℝ} (ha : 0 ≤ a) (u : EReal) : lift (a : EReal) u = a * tent u := by
  have hinf : max ((a : EReal) - a * ⊤) 0 = 0 := by
    rcases ha.eq_or_lt with rfl | h
    · simp
    · rw [EReal.coe_mul_top_of_pos h]; simp
  induction u with
  | bot => rw [tent_bot, mul_zero]; simpa [lift, gap] using hinf
  | top => rw [tent_top, mul_zero]; simpa [lift, gap] using hinf
  | coe r =>
    rw [tent_coe, ← EReal.coe_mul, mul_max_of_nonneg _ _ ha, mul_zero, mul_sub, mul_one]
    unfold lift gap
    rw [← EReal.coe_neg, ← EReal.coe_strictMono.monotone.map_max, ← EReal.coe_mul, ← EReal.coe_sub, ← EReal.coe_zero,
      ← EReal.coe_strictMono.monotone.map_max]
    rfl

/-! ### The mask and the index words -/

/-- One when a coordinate lies in the image, zero otherwise. -/
def inside (u : EReal) : EReal := if 0 ≤ u ∧ u < 32 then 1 else 0

/-- The reference's mask is the product of the two coordinates' own. -/
theorem mask_eq (Y X : EReal) : mask Y X = inside Y * inside X := by
  unfold mask inside
  show ((((_ : BitVec 1).toNat : ℝ)) : EReal) = _
  by_cases h1 : 0 ≤ Y <;> by_cases h2 : Y < 32 <;> by_cases h3 : 0 ≤ X <;> by_cases h4 : X < 32 <;>
    simp [h1, h2, h3, h4, IntOp.andi]

/-- The index word of a row or column of the image names it. -/
theorem clampCell_word (n : Fin 32) :
    clampCell (Scalar.select (IntOp.cmpi .slt (BitVec.ofInt 32 (n.val : ℤ)) 0#32) (IntOp.addi (BitVec.ofInt 32 (n.val : ℤ)) 32#32)
      (BitVec.ofInt 32 (n.val : ℤ))) = n := by
  revert n
  decide

/-- A whole number inside the image names its own row or column. -/
theorem cell_coe (n : Fin 32) : cell (((n.val : ℤ) : ℝ) : EReal) = n := by
  have h31 : (FloatOps.sitofp (F := Ideal) FTy.f32 31#32 : EReal) = ((31 : ℝ) : EReal) := by
    show ((((31#32 : BitVec 32).toInt : ℝ)) : EReal) = _
    norm_num [show (31#32 : BitVec 32).toInt = 31 from by decide]
  have h0 : (FloatOps.sitofp (F := Ideal) FTy.f32 0#32 : EReal) = ((0 : ℝ) : EReal) := by
    show ((((0#32 : BitVec 32).toInt : ℝ)) : EReal) = _
    norm_num [show (0#32 : BitVec 32).toInt = 0 from by decide]
  have hn : ((n.val : ℤ) : ℝ) ≤ 31 := by exact_mod_cast (by omega : (n.val : ℤ) ≤ 31)
  have hn0 : (0 : ℝ) ≤ ((n.val : ℤ) : ℝ) := by exact_mod_cast (by omega : (0 : ℤ) ≤ n.val)
  have hw : gridWord (((n.val : ℤ) : ℝ) : EReal) = BitVec.ofInt 32 (n.val : ℤ) := by
    unfold gridWord
    rw [h31, h0, max_eq_right (by exact_mod_cast hn0), min_eq_right (by exact_mod_cast hn)]
    show BitVec.ofInt 32 (Ideal.toIntClamped _ _ _) = _
    rw [Ideal.toIntClamped_coe, if_pos hn0, Int.floor_intCast]
    congr 1
    omega
  unfold cell wrapWord
  rw [hw, clampCell_word]

/-! ### One coordinate -/

/-- The weight of the cell at or before a coordinate, zero outside the image. -/
def near (u : EReal) : EReal := inside (low u) * (1 - (u - low u))

/-- The weight of the cell after it, zero outside the image. -/
def far (u : EReal) : EReal := inside (low u + 1) * (u - low u)

theorem low_coe (r : ℝ) : low (r : EReal) = ((⌊r⌋ : ℝ) : EReal) := rfl

theorem low_coe_add_one (r : ℝ) : low (r : EReal) + 1 = (((⌊r⌋ + 1 : ℤ) : ℝ) : EReal) := by
  rw [low_coe, ← EReal.coe_one, ← EReal.coe_add, Int.cast_add, Int.cast_one]

/-- Whether a whole number lies in the image. -/
theorem inside_int (k : ℤ) : inside ((k : ℝ) : EReal) = if 0 ≤ k ∧ k < 32 then 1 else 0 := by
  have h : (0 ≤ ((k : ℝ) : EReal) ∧ ((k : ℝ) : EReal) < 32) ↔ (0 ≤ k ∧ k < 32) := by
    rw [show (32 : EReal) = ((32 : ℝ) : EReal) from rfl, EReal.coe_nonneg, EReal.coe_lt_coe_iff]
    exact_mod_cast Iff.rfl
  unfold inside
  simp only [h]

/-- A mask times a nonnegative real number is one. -/
theorem inside_mul_real (u : EReal) {t : ℝ} (ht : 0 ≤ t) : ∃ r : ℝ, 0 ≤ r ∧ inside u * t = r := by
  unfold inside
  split
  · exact ⟨t, ht, one_mul _⟩
  · exact ⟨0, le_rfl, by rw [zero_mul]; rfl⟩

theorem inside_top : inside ⊤ = 0 := if_neg fun h => absurd h.2 (not_lt.2 le_top)

theorem inside_bot : inside ⊥ = 0 := if_neg fun h => absurd h.1 (not_le.2 EReal.bot_lt_zero)

theorem low_top : low ⊤ = ⊤ := rfl

theorem low_bot : low ⊥ = ⊥ := rfl

theorem near_top : near ⊤ = 0 := by rw [near, low_top, inside_top, zero_mul]

theorem near_bot : near ⊥ = 0 := by rw [near, low_bot, inside_bot, zero_mul]

theorem far_top : far ⊤ = 0 := by
  rw [far, low_top, show (⊤ : EReal) + 1 = ⊤ from rfl, inside_top, zero_mul]

theorem far_bot : far ⊥ = 0 := by
  rw [far, low_bot, show (⊥ : EReal) + 1 = ⊥ from rfl, inside_bot, zero_mul]

/-- A real coordinate's distance past the whole number below it. -/
theorem sub_low_coe (r : ℝ) : (r : EReal) - low (r : EReal) = ((r - ⌊r⌋ : ℝ) : EReal) := by
  rw [low_coe, ← EReal.coe_sub]

theorem one_sub_low_coe (r : ℝ) : 1 - ((r : EReal) - low (r : EReal)) = ((1 - (r - ⌊r⌋) : ℝ) : EReal) := by
  rw [sub_low_coe, ← EReal.coe_one, ← EReal.coe_sub]

/-- The weight of the first cell is a nonnegative real number. -/
theorem near_real (u : EReal) : ∃ r : ℝ, 0 ≤ r ∧ near u = r := by
  induction u with
  | bot => exact ⟨0, le_rfl, by rw [near_bot]; rfl⟩
  | top => exact ⟨0, le_rfl, by rw [near_top]; rfl⟩
  | coe r =>
    rw [near, one_sub_low_coe]
    exact inside_mul_real _ (by linarith [Int.lt_floor_add_one r])

/-- The weight of the second cell is a nonnegative real number. -/
theorem far_real (u : EReal) : ∃ r : ℝ, 0 ≤ r ∧ far u = r := by
  induction u with
  | bot => exact ⟨0, le_rfl, by rw [far_bot]; rfl⟩
  | top => exact ⟨0, le_rfl, by rw [far_top]; rfl⟩
  | coe r =>
    rw [far, sub_low_coe]
    exact inside_mul_real _ (by linarith [Int.floor_le r])

/-- Picking out the term of a whole number `k`: the value at the cell it names, zero when it lies outside the image. -/
theorem sum_pick (f : Fin 32 → EReal) (k : ℤ) (w : EReal) :
    ∑ g : Fin 32, (if (g.val : ℤ) = k then f g * w else 0) = f (cell ((k : ℝ) : EReal)) * (inside ((k : ℝ) : EReal) * w) := by
  rw [inside_int]
  by_cases h : 0 ≤ k ∧ k < 32
  · obtain ⟨n, rfl⟩ : ∃ n : Fin 32, (n.val : ℤ) = k := ⟨⟨k.toNat, by omega⟩, by simp; omega⟩
    rw [if_pos h, one_mul, cell_coe, Finset.sum_eq_single n]
    · rw [if_pos rfl]
    · intro g _ hg
      exact if_neg fun e => hg (Fin.ext (by omega))
    · exact fun e => absurd (Finset.mem_univ n) e
  · rw [if_neg h, zero_mul, mul_zero]
    refine Finset.sum_eq_zero fun g _ => if_neg fun e => h ?_
    have := g.isLt
    omega

/-- A tent centred at a real coordinate, at a whole number: nonzero at the two whole numbers around the coordinate alone. -/
theorem tent_int (g : ℤ) (r : ℝ) : max (1 - |(g : ℝ) - r|) 0 = if g = ⌊r⌋ then 1 - (r - ⌊r⌋) else if g = ⌊r⌋ + 1 then r - ⌊r⌋ else 0 := by
  have h0 := Int.floor_le r
  have h1 := Int.lt_floor_add_one r
  split
  · rename_i e
    rw [e, abs_of_nonpos (by linarith), max_eq_left (by linarith)]
    ring
  · split
    · rename_i e
      rw [e, abs_of_nonneg (by push_cast; linarith), max_eq_left (by push_cast; linarith)]
      push_cast
      ring
    · rename_i e e'
      refine max_eq_right ?_
      rcases lt_or_gt_of_ne e with h | h
      · have : (g : ℝ) ≤ ⌊r⌋ - 1 := by exact_mod_cast (by omega : g ≤ ⌊r⌋ - 1)
        rw [abs_of_nonpos (by linarith)]
        linarith
      · have : (⌊r⌋ : ℝ) + 2 ≤ g := by exact_mod_cast (by omega : ⌊r⌋ + 2 ≤ g)
        rw [abs_of_nonneg (by linarith)]
        linarith

/-- The sum of a line's 32 values against a tent is the two cells around the tent's centre, each with its weight. -/
theorem sum_tent (f : Fin 32 → EReal) (u : EReal) :
    ∑ g : Fin 32, f g * tent (((g.val : ℕ) : ℝ) - u) = f (cell (low u)) * near u + f (cell (low u + 1)) * far u := by
  induction u with
  | bot =>
    rw [near_bot, far_bot, mul_zero, mul_zero, add_zero]
    exact Finset.sum_eq_zero fun g _ => by rw [EReal.coe_sub_bot, tent_top, mul_zero]
  | top =>
    rw [near_top, far_top, mul_zero, mul_zero, add_zero]
    exact Finset.sum_eq_zero fun g _ => by rw [sub_eq_add_neg, EReal.neg_top, EReal.add_bot, tent_bot, mul_zero]
  | coe r =>
    rw [near, far, one_sub_low_coe, sub_low_coe, low_coe_add_one, low_coe, ← sum_pick, ← sum_pick, ← Finset.sum_add_distrib]
    refine Finset.sum_congr rfl fun g _ => ?_
    have e := tent_int (g.val : ℤ) r
    rw [Int.cast_natCast] at e
    rw [← EReal.coe_sub, tent_coe, e]
    by_cases h : (g.val : ℤ) = ⌊r⌋
    · rw [if_pos h, if_pos h, if_neg (by omega), add_zero]
    · rw [if_neg h, if_neg h, zero_add]
      split
      · rfl
      · rw [EReal.coe_zero, mul_zero]

/-! ### Two coordinates -/

/-- A corner is the image's value times its row's and its column's weights. -/
theorem corner_eq (v : Fin 1024 → EReal) (Y X wy wx : EReal) :
    corner v Y X (wy * wx) = v ⟨(cell Y).val * 32 + (cell X).val, by omega⟩ * (inside X * wx) * (inside Y * wy) := by
  unfold corner
  rw [mask_eq]
  ac_rfl

/-- A sum of two terms times a nonnegative real number. -/
theorem add_mul_coe (a b : EReal) {w : EReal} (hw : ∃ r : ℝ, 0 ≤ r ∧ w = r) : (a + b) * w = a * w + b * w := by
  obtain ⟨r, hr, rfl⟩ := hw
  exact EReal.right_distrib_of_nonneg_of_ne_top (by exact_mod_cast hr) (EReal.coe_ne_top r) a b

/-- The sum of an image's 1024 values against a product of two tents is the image sampled at the tents' centres. -/
theorem sum_tents (v : Fin 1024 → EReal) (x y : EReal) :
    ∑ k : Fin 1024, v k * (tent (((k.val % 32 : ℕ) : ℝ) - x) * tent (((k.val / 32 : ℕ) : ℝ) - y)) = sample v x y := by
  have hgrid : ∑ k : Fin 1024, v k * (tent (((k.val % 32 : ℕ) : ℝ) - x) * tent (((k.val / 32 : ℕ) : ℝ) - y))
      = ∑ Y : Fin 32, (∑ X : Fin 32, v ⟨Y.val * 32 + X.val, by omega⟩ * tent (((X.val : ℕ) : ℝ) - x)) * tent (((Y.val : ℕ) : ℝ) - y) := by
    rw [← (finProdFinEquiv (m := 32) (n := 32)).sum_comp, Fintype.sum_prod_type]
    refine Finset.sum_congr rfl fun Y _ => ?_
    obtain ⟨t, ht, e⟩ := tent_real (((Y.val : ℕ) : ℝ) - y)
    rw [e, sum_mul_coe _ _ ht]
    refine Finset.sum_congr rfl fun X _ => ?_
    have hk : (finProdFinEquiv (Y, X) : Fin (32 * 32)) = (⟨Y.val * 32 + X.val, by omega⟩ : Fin 1024) := Fin.ext (by simp [finProdFinEquiv]; omega)
    rw [hk]
    have hx : (Y.val * 32 + X.val) % 32 = X.val := by omega
    have hy : (Y.val * 32 + X.val) / 32 = Y.val := by omega
    simp only [hx, hy, e]
    rw [mul_assoc]
  rw [hgrid, sum_tent]
  simp only [sum_tent]
  rw [add_mul_coe _ _ (near_real y), add_mul_coe _ _ (far_real y)]
  unfold sample
  rw [corner_eq, corner_eq, corner_eq, corner_eq, ← add_assoc]
  rfl

/-- The kernel's form of sampling and the reference's, for weights that are nonnegative real numbers. -/
theorem weave_eq (v : Fin 1024 → EReal) (a x y : Fin 8 → EReal) (ha : ∀ p, ∃ r : ℝ, 0 ≤ r ∧ a p = r) :
    weave v a x y = ∑ p : Fin 8, sample v (x p) (y p) * a p := by
  have hlift : ∀ (k : Fin 1024) (p : Fin 8), lift (a p) (((k.val % 32 : ℕ) : ℝ) - x p) * tent (((k.val / 32 : ℕ) : ℝ) - y p)
      = a p * (tent (((k.val % 32 : ℕ) : ℝ) - x p) * tent (((k.val / 32 : ℕ) : ℝ) - y p)) := fun k p => by
    obtain ⟨r, hr, e⟩ := ha p
    rw [e, lift_coe hr, mul_assoc]
  have hnn : ∀ (k : Fin 1024) (p : Fin 8), 0 ≤ a p * (tent (((k.val % 32 : ℕ) : ℝ) - x p) * tent (((k.val / 32 : ℕ) : ℝ) - y p)) := fun k p => by
    obtain ⟨r, hr, e⟩ := ha p
    obtain ⟨s, hs, e'⟩ := tent_real (((k.val % 32 : ℕ) : ℝ) - x p)
    obtain ⟨t, ht, e''⟩ := tent_real (((k.val / 32 : ℕ) : ℝ) - y p)
    rw [e, e', e'', ← EReal.coe_mul, ← EReal.coe_mul]
    exact_mod_cast mul_nonneg hr (mul_nonneg hs ht)
  unfold weave
  simp only [hlift]
  rw [Finset.sum_congr rfl fun k _ => mul_sum_of_nonneg _ _ (hnn k) (v k), Finset.sum_comm]
  refine Finset.sum_congr rfl fun p _ => ?_
  rw [← sum_tents]
  obtain ⟨r, hr, e⟩ := ha p
  rw [e, sum_mul_coe _ _ hr]
  exact Finset.sum_congr rfl fun k _ => by ac_rfl

/-! ### The softmax and the positions -/

/-- The largest of eight real numbers is real. -/
theorem peak_real (z : Fin 8 → EReal) (hz : ∀ p, ∃ r : ℝ, z p = r) : ∃ M : ℝ, peak z = M := by
  have hb : peak z ≠ ⊥ := fun e => by
    obtain ⟨r, hr⟩ := hz 0
    have : z 0 ≤ peak z := Finset.le_fold_max _ |>.2 (Or.inr ⟨0, Finset.mem_univ _, le_rfl⟩)
    rw [e, hr] at this
    exact absurd this (not_le.2 (EReal.bot_lt_coe r))
  have ht : peak z ≠ ⊤ := ((Finset.fold_max_lt _).2 ⟨bot_lt_top, fun p _ => by
    obtain ⟨r, hr⟩ := hz p
    rw [hr]; exact EReal.coe_lt_top r⟩).ne
  exact ⟨_, (EReal.coe_toReal ht hb).symm⟩

/-- The softmax weights of real logits are nonnegative real numbers. -/
theorem softAt_real (z : Fin 8 → EReal) (hz : ∀ p, ∃ r : ℝ, z p = r) (p : Fin 8) : ∃ r : ℝ, 0 ≤ r ∧ softAt (peak z) z p = r := by
  obtain ⟨M, hM⟩ := peak_real z hz
  choose r hr using hz
  have he : ∀ x, Ideal.exp (z x - peak z) = ((Real.exp (r x - M) : ℝ) : EReal) := fun x => by
    rw [hr x, hM, ← EReal.coe_sub, Ideal.exp_coe]
  have hs : ∑ x : Fin 8, ((Real.exp (r x - M) : ℝ) : EReal) = ((∑ x : Fin 8, Real.exp (r x - M) : ℝ) : EReal) := by
    simp only [Fin.sum_univ_eight, EReal.coe_add]
  have hpos : 0 < ∑ x : Fin 8, Real.exp (r x - M) := Finset.sum_pos (fun x _ => Real.exp_pos _) ⟨0, Finset.mem_univ _⟩
  refine ⟨Real.exp (r p - M) * (1 / ∑ x : Fin 8, Real.exp (r x - M)), by positivity, ?_⟩
  unfold softAt
  simp only [he]
  rw [hs, Ideal.div_coe hpos.ne', ← EReal.coe_mul]

namespace Args

variable (A : Args)

/-- The two programs' positions of a point agree. -/
theorem place_eq (n : Fin 4) (h : Fin 12) (s : Fin 2) (l : Fin 1024) (p : Fin 8) : A.place n h s l p = A.spot n h s l p := by
  have h32 : (32 : EReal) = ((32 : ℝ) : EReal) := rfl
  have hd : ∀ a b : EReal, (32 : EReal) * (a + b) = 32 * a + 32 * b := fun a b =>
    EReal.left_distrib_of_nonneg_of_ne_top (by rw [h32]; exact_mod_cast (by norm_num : (0 : ℝ) ≤ 32)) (by rw [h32]; exact EReal.coe_ne_top _) a b
  have hoff : (∑ e, (32 * A.wOff e ⟨(8 * h.val + p.val) * 2 + s.val, by omega⟩) * A.query n l e)
      + 32 * A.bOff ⟨(8 * h.val + p.val) * 2 + s.val, by omega⟩ = 32 * A.offset n h p s l := by
    rw [offset, hd, h32, coe_mul_sum _ _ (by norm_num)]
    refine congrArg (· + _) (Finset.sum_congr rfl fun e _ => by ac_rfl)
  have hback : ∀ u : EReal, u - 1 + 1 = u := fun u => by
    induction u with
    | bot => rfl
    | top => rfl
    | coe r => rw [← EReal.coe_one, ← EReal.coe_sub, ← EReal.coe_add, sub_add_cancel]
  have hhalf : ∀ u : EReal, Ideal.div (2 * u * 32) 2 = 32 * u := fun u => by
    rw [show (2 : EReal) = ((2 : ℝ) : EReal) from rfl, Ideal.div_coe (by norm_num), mul_comm _ u, mul_assoc, mul_assoc, h32,
      ← EReal.coe_mul, ← EReal.coe_mul, mul_comm u]
    norm_num
  unfold place spot
  rw [hoff, hback, hhalf, hd, sub_eq_add_neg, sub_eq_add_neg]
  ac_rfl

/-- The two programs' outputs agree where every logit is a real number. -/
theorem out_eq (hz : ∀ n h l p, ∃ r : ℝ, A.logit n h l p = r) (n : Fin 4) (l : Fin 1024) (o : Fin 768) : A.out n l o = A.refOut n l o := by
  have hhead : ∀ n h i l, A.head n h i l = A.refHead n h i l := fun n h i l => by
    unfold head refHead
    rw [weave_eq _ _ _ _ (softAt_real _ (hz n h l))]
    simp only [place_eq]
  unfold out refOut
  simp only [hhead]

end Args

end Cert.Own

end
-- ==== Proof.Precondition.lean ====
/-
  The precondition, read: every attention logit is a real number.
-/
module

public import proofs.«01_k».proof.Pre_finite_logits
public import proofs.«01_k».proof.Proof.RefRead

@[expose] public section

set_option maxRecDepth 16384

noncomputable section

namespace Cert.Pre_finite_logits.Own

open Idealize.ShloMosaic Idealize.ShloMosaic.TcCoe
open Cert.Pre_finite_logits Cert.Own

/-- The side conditions of the precondition's own operations. -/
theorem facts : Cert.Pre_finite_logits.Facts where
  shapeCasts_S4x32x32x768_S4x1024x768 := by decide
  bcast_S96_S1x1x96_2 := by decide
  bcast_S1x1x96_S4x1024x96_0_1_2 := by decide
  bcast_S_S4x1024x96 := by decide
  dot_S4x1024x768_S768x96_S4x1024x96_2_0_01_1_n_n_wf := by decide

/-- The bit pattern of plus infinity. -/
theorem ofBits_top : Ideal.ofBits FTy.f32 2139095040#32 = ⊤ := by
  simp [Ideal.ofBits, Ideal.ieee]

variable [Cert.Pre_finite_logits.Facts]
variable (x0 : FVec Ideal S4x32x32x768 .f32) (x1 : FVec Ideal S4x32x32x2 .f32) (x2 : FVec Ideal S768x192 .f32) (x3 : FVec Ideal S192 .f32)
  (x4 : FVec Ideal S768x96 .f32) (x5 : FVec Ideal S96 .f32) (x6 : FVec Ideal S768x768 .f32) (x7 : FVec Ideal S768 .f32)
  (x8 : FVec Ideal S768x768 .f32) (x9 : FVec Ideal S768 .f32)

/-- The precondition at one logit: its magnitude is below plus infinity. -/
theorem fn_apply (n : Fin 4) (l : Fin 1024) (h : Fin 12) (p : Fin 8) :
    fn (F := Ideal) x0 x1 x2 x3 x4 x5 x6 x7 x8 x9 (ix3 n l ⟨8 * h.val + p.val, by omega⟩)
      = BitVec.ofBool (decide (gap ((Cert.ReferenceIdeal.Own.argsOf x0 x1 x2 x3 x4 x5 x6 x7 x8 x9).logit n h l p) < ⊤)) := by
  rw [← ofBits_top]
  pointwise [fn]
  rfl

/-- An extended real of magnitude below plus infinity is a real number. -/
theorem real_of_gap_lt_top (u : EReal) (h : gap u < ⊤) : ∃ r : ℝ, u = r := by
  induction u with
  | bot => exact absurd h (by simp [gap])
  | top => exact absurd h (by simp [gap])
  | coe r => exact ⟨r, rfl⟩

/-- Under the precondition every logit is a real number. -/
theorem logits_real (hpre : fn (F := Ideal) x0 x1 x2 x3 x4 x5 x6 x7 x8 x9 = fun _ => 1#1) (n : Fin 4) (h : Fin 12) (l : Fin 1024) (p : Fin 8) :
    ∃ r : ℝ, (Cert.ReferenceIdeal.Own.argsOf x0 x1 x2 x3 x4 x5 x6 x7 x8 x9).logit n h l p = r := by
  have e := (fn_apply x0 x1 x2 x3 x4 x5 x6 x7 x8 x9 n l h p).symm.trans (congrFun hpre _)
  refine real_of_gap_lt_top _ ?_
  by_contra hn
  rw [decide_eq_false hn] at e
  exact absurd e (by decide)

end Cert.Pre_finite_logits.Own

end
-- ==== Proof.lean ====
/-
  The proof of `Cert.Claim`. The kernel's run and its result are in the modules from `Payload` to `Result`, and `Twin`; the reference's
  result is read in `RefGather`, `RefCorner` and `RefRead`; the identity between the two is `Bilinear`; this module joins them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.ReferenceIdeal.Run
public import proofs.«01_k».proof.Proof.Result
public import proofs.«01_k».proof.Proof.Twin
public import proofs.«01_k».proof.Proof.RefRead
public import proofs.«01_k».proof.Proof.Bilinear
public import proofs.«01_k».proof.Proof.Precondition
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem Cert.Own

/-- The kernel, over the extended reals, runs, keeps its arguments and ends with every counter at zero. -/
theorem frame_kernelIdeal : Cert.quiescent_KernelIdeal := fun m ρ _ => Cert.KernelIdeal.Own.frame_at m ρ

/-- So does the kernel with its float words: it is the same program, printed a second time. -/
theorem frame_kernel : Cert.quiescent_Kernel := fun m ρ _ => Cert.Kernel.Own.run_of (Cert.KernelIdeal.Own.frame_at (F := Bits) m ρ)

/-- The reference, over the extended reals, runs, keeps its arguments and ends with every counter at zero. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel's run leaves its result in the result buffer. -/
theorem kernel_result (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v44) = Cert.KernelIdeal.Own.result m c) :=
  (θ_run Cert.KernelIdeal.defs _ _).mono
    (fun _ h c => ((h.1 c).2 Cert.KernelIdeal.main_v44 (Pipeline.mem_restRefs_of Cert.KernelIdeal.main_v44 (by decide) (by decide))).trans
      (Cert.KernelIdeal.Own.tail_eq m c))
    (Cert.KernelIdeal.Own.run_main m ρ)

/-- The reference's result is the kernel's, where the arguments agree and every logit is a real number. -/
theorem results_agree (m : (ℓ : Loc Cert.KernelIdeal.nD Cert.KernelIdeal.τ Cert.KernelIdeal.sig) → Buf (Elt Ideal) ℓ) (c : Dev Cert.KernelIdeal.nD)
    (x0 : FVec Ideal Cert.ReferenceIdeal.S4x32x32x768 .f32) (x1 : FVec Ideal Cert.ReferenceIdeal.S4x32x32x2 .f32)
    (x2 : FVec Ideal Cert.ReferenceIdeal.S768x192 .f32) (x3 : FVec Ideal Cert.ReferenceIdeal.S192 .f32)
    (x4 : FVec Ideal Cert.ReferenceIdeal.S768x96 .f32) (x5 : FVec Ideal Cert.ReferenceIdeal.S96 .f32)
    (x6 : FVec Ideal Cert.ReferenceIdeal.S768x768 .f32) (x7 : FVec Ideal Cert.ReferenceIdeal.S768 .f32)
    (x8 : FVec Ideal Cert.ReferenceIdeal.S768x768 .f32) (x9 : FVec Ideal Cert.ReferenceIdeal.S768 .f32)
    (hA : Cert.KernelIdeal.Own.argsOf m c = Cert.ReferenceIdeal.Own.argsOf x0 x1 x2 x3 x4 x5 x6 x7 x8 x9)
    (hz : ∀ n h l p, ∃ r : ℝ, (Cert.ReferenceIdeal.Own.argsOf x0 x1 x2 x3 x4 x5 x6 x7 x8 x9).logit n h l p = r) :
    Cert.ReferenceIdeal.Read.val_main_v236 (F := Ideal) x0 x1 x2 x3 x4 x5 x6 x7 x8 x9 = Cert.KernelIdeal.Own.result m c := by
  have key : ∀ (n : Fin 4) (y x : Fin 32) (o : Fin 768),
      (Cert.ReferenceIdeal.Read.val_main_v236 (F := Ideal) x0 x1 x2 x3 x4 x5 x6 x7 x8 x9 (ix4 n y x o) : EReal)
        = (Cert.KernelIdeal.Own.argsOf m c).out n ⟨y.val * 32 + x.val, by omega⟩ o := fun n y x o => by
    rw [hA, Args.out_eq _ hz]
    exact Cert.ReferenceIdeal.Own.v236_apply x0 x1 x2 x3 x4 x5 x6 x7 x8 x9 n y x o
  funext j
  have e : j = ix4 (j 0 : Fin 4) (j 1 : Fin 32) (j 2 : Fin 32) (j 3 : Fin 768) := funext fun a => by
    match a with
    | ⟨0, _⟩ => rfl
    | ⟨1, _⟩ => rfl
    | ⟨2, _⟩ => rfl
    | ⟨3, _⟩ => rfl
  exact (congrArg _ e).trans (key _ _ _ _)

/-- The kernel and the reference end with equal results, from equal arguments whose logits are real numbers. -/
theorem results_equal [hPre : Cert.Pre_finite_logits.Facts] : Cert.algebraic_KernelIdeal_ReferenceIdeal_pre_finite_logits := fun m g m' g' hpre hagree => by
  refine ⟨fun c => Cert.KernelIdeal.Own.result m c, ?_, ?_⟩
  · refine (θ_run Cert.KernelIdeal.defs _ _).mono (fun _ h c => ⟨h.2 c, h.1.1 c⟩)
      (θ_run_and (frame_kernelIdeal m g trivial) (kernel_result m g))
  · refine (θ_run Cert.ReferenceIdeal.defs _ _).mono (fun _ h c => ⟨?_, (h c).2⟩) (Cert.ReferenceIdeal.Value.run (F := Ideal) m' g')
    refine (h c).1.trans ((Cert.ReferenceIdeal.Read.val_main_v236_eq (launchContents m' c)).trans ?_)
    have hp := hpre c
    obtain ⟨h0, h1, h2, h3, h4, h5, h6, h7, h8, h9⟩ := hagree c
    rw [← h0, ← h1, ← h2, ← h3, ← h4, ← h5, ← h6, ← h7, ← h8, ← h9] at hp
    refine results_agree m c _ _ _ _ _ _ _ _ _ _ ?_ (Cert.Pre_finite_logits.Own.logits_real _ _ _ _ _ _ _ _ _ _ hp)
    unfold Cert.KernelIdeal.Own.argsOf
    rw [← h0, ← h1, ← h2, ← h3, ← h4, ← h5, ← h6, ← h7, ← h8, ← h9]
    rfl

/-- Every claim of this problem. -/
theorem claim : Cert.Claim :=
  ⟨Cert.Kernel.Gen.facts, Cert.KernelIdeal.Gen.facts, Cert.ReferenceIdeal.Gen.facts, Cert.Pre_finite_logits.Own.facts,
    frame_kernel, frame_kernelIdeal, fun m ρ _ => frame_kernelIdeal m ρ trivial,
    frame_referenceIdeal, fun m ρ _ => frame_referenceIdeal m ρ trivial,
    trivial, results_equal (hPre := Cert.Pre_finite_logits.Own.facts)⟩

end Cert.Proof

end
